-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S256x64 : Shape := ⟨2, ![256, 64]⟩
abbrev S256x64x64 : Shape := ⟨3, ![256, 64, 64]⟩
abbrev S100x64 : Shape := ⟨2, ![100, 64]⟩
abbrev S7x64 : Shape := ⟨2, ![7, 64]⟩
abbrev S8x64 : Shape := ⟨2, ![8, 64]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S256x64 : S_.BroadcastsInDim S256x64 (![] : Fin 0 → Fin S256x64.rank)
  reducesTo_S256x64_S_d0_1 : S256x64.ReducesTo [0, 1] S_
  h_S_ : 0 < S_.numel
  bcast_S_S256x64x64 : S_.BroadcastsInDim S256x64x64 (![] : Fin 0 → Fin S256x64x64.rank)
  reducesTo_S256x64x64_S_d0_1_2 : S256x64x64.ReducesTo [0, 1, 2] S_

variable [Facts]

def fn_part1 {F : FTy → Type} [FloatOps F] (main_arg3 : IVec S256x64 32) (main_v12 : IVec S_ 1) (main_v14 : IVec S256x64 1) (main_v15 : IVec S256x64 32) : IVec S_ 1 :=
  let main_v16 : IVec S256x64 1 := cmpi .slt main_arg3 main_v15
  let main_v17 : IVec S256x64 1 := andi main_v14 main_v16
  let main_c_7 : IVec S_ 1 := constantI S_ 1 1#1
  let main_v18 : IVec S_ 1 := (fun x v => Host.reduce IntOp.andi x v reducesTo_S256x64_S_d0_1 h_S_) main_v17 main_c_7
  let main_v19 : IVec S_ 1 := andi main_v12 main_v18
  main_v19

def fn {F : FTy → Type} [FloatOps F] (main_arg0 : IVec S256x64 32) (main_arg1 : IVec S256x64x64 32) (main_arg2 : IVec S256x64 32) (main_arg3 : IVec S256x64 32) (main_arg4 : FVec F S100x64 .f32) (main_arg5 : FVec F S7x64 .f32) (main_arg6 : FVec F S8x64 .f32) (main_arg7 : FVec F S128x256 .f32) (main_arg8 : FVec F S256 .f32) (main_arg9 : FVec F S256x256 .f32) (main_arg10 : FVec F S256 .f32) : IVec S_ 1 :=
  let main_c : IVec S_ 32 := constantI S_ 32 0#32
  let main_v0 : IVec S256x64 32 := broadcastInDim S256x64 ![] bcast_S_S256x64 main_c
  let main_v1 : IVec S256x64 1 := cmpi .sge main_arg0 main_v0
  let main_c_0 : IVec S_ 32 := constantI S_ 32 100#32
  let main_v2 : IVec S256x64 32 := broadcastInDim S256x64 ![] bcast_S_S256x64 main_c_0
  let main_v3 : IVec S256x64 1 := cmpi .slt main_arg0 main_v2
  let main_v4 : IVec S256x64 1 := andi main_v1 main_v3
  let main_c_1 : IVec S_ 1 := constantI S_ 1 1#1
  let main_v5 : IVec S_ 1 := (fun x v => Host.reduce IntOp.andi x v reducesTo_S256x64_S_d0_1 h_S_) main_v4 main_c_1
  let main_c_2 : IVec S_ 32 := constantI S_ 32 0#32
  let main_v6 : IVec S256x64x64 32 := broadcastInDim S256x64x64 ![] bcast_S_S256x64x64 main_c_2
  let main_v7 : IVec S256x64x64 1 := cmpi .sge main_arg1 main_v6
  let main_c_3 : IVec S_ 32 := constantI S_ 32 8#32
  let main_v8 : IVec S256x64x64 32 := broadcastInDim S256x64x64 ![] bcast_S_S256x64x64 main_c_3
  let main_v9 : IVec S256x64x64 1 := cmpi .slt main_arg1 main_v8
  let main_v10 : IVec S256x64x64 1 := andi main_v7 main_v9
  let main_c_4 : IVec S_ 1 := constantI S_ 1 1#1
  let main_v11 : IVec S_ 1 := (fun x v => Host.reduce IntOp.andi x v reducesTo_S256x64x64_S_d0_1_2 h_S_) main_v10 main_c_4
  let main_v12 : IVec S_ 1 := andi main_v5 main_v11
  let main_c_5 : IVec S_ 32 := constantI S_ 32 0#32
  let main_v13 : IVec S256x64 32 := broadcastInDim S256x64 ![] bcast_S_S256x64 main_c_5
  let main_v14 : IVec S256x64 1 := cmpi .sge main_arg3 main_v13
  let main_c_6 : IVec S_ 32 := constantI S_ 32 7#32
  let main_v15 : IVec S256x64 32 := broadcastInDim S256x64 ![] bcast_S_S256x64 main_c_6
  fn_part1 (F := F) main_arg3 main_v12 main_v14 main_v15
-- ==== Kernel.lean ====
abbrev S256x64 : Shape := ⟨2, ![256, 64]⟩
abbrev S256x64x64 : Shape := ⟨3, ![256, 64, 64]⟩
abbrev S100x64 : Shape := ⟨2, ![100, 64]⟩
abbrev S7x64 : Shape := ⟨2, ![7, 64]⟩
abbrev S8x64 : Shape := ⟨2, ![8, 64]⟩
abbrev S128x256 : Shape := ⟨2, ![128, 256]⟩
abbrev S256 : Shape := ⟨1, ![256]⟩
abbrev S256x256 : Shape := ⟨2, ![256, 256]⟩
abbrev S8x1x2048 : Shape := ⟨3, ![8, 1, 2048]⟩
abbrev S64x100 : Shape := ⟨2, ![64, 100]⟩
abbrev S64x7 : Shape := ⟨2, ![64, 7]⟩
abbrev S256x128 : Shape := ⟨2, ![256, 128]⟩
abbrev S256x1 : Shape := ⟨2, ![256, 1]⟩
abbrev S256x64x256 : Shape := ⟨3, ![256, 64, 256]⟩
abbrev S256x64x4096 : Shape := ⟨3, ![256, 64, 4096]⟩
abbrev S256x64x64x64 : Shape := ⟨4, ![256, 64, 64, 64]⟩
abbrev S1x1x2048 : Shape := ⟨3, ![1, 1, 2048]⟩
abbrev S32x64x64 : Shape := ⟨3, ![32, 64, 64]⟩
abbrev S32x64x256 : Shape := ⟨3, ![32, 64, 256]⟩
abbrev S32x64x4096 : Shape := ⟨3, ![32, 64, 4096]⟩
abbrev S1x2048 : Shape := ⟨2, ![1, 2048]⟩
abbrev S100x2048 : Shape := ⟨2, ![100, 2048]⟩
abbrev S7x2048 : Shape := ⟨2, ![7, 2048]⟩
abbrev S64x2048 : Shape := ⟨2, ![64, 2048]⟩
abbrev S128x2048 : Shape := ⟨2, ![128, 2048]⟩
abbrev S256x2048 : Shape := ⟨2, ![256, 2048]⟩
abbrev S2048x256 : Shape := ⟨2, ![2048, 256]⟩
abbrev S8x512 : Shape := ⟨2, ![8, 512]⟩
abbrev S64x512 : Shape := ⟨2, ![64, 512]⟩
abbrev S2048x64 : Shape := ⟨2, ![2048, 64]⟩
abbrev S2048x512 : Shape := ⟨2, ![2048, 512]⟩
abbrev S32x64x512 : Shape := ⟨3, ![32, 64, 512]⟩

abbrev nBuf : Space → Nat
  | .hbm => 23
  | .vmem => 17
  | .smem => 0
  | _ => 0

abbrev bufTy : (tb : Table) → Fin (tcTables nBuf tb) → BufTy
  | .hbm, ⟨0, _⟩ => ⟨S256x64, .i32⟩
  | .hbm, ⟨1, _⟩ => ⟨S256x64x64, .i32⟩
  | .hbm, ⟨2, _⟩ => ⟨S256x64, .i32⟩
  | .hbm, ⟨3, _⟩ => ⟨S256x64, .i32⟩
  | .hbm, ⟨4, _⟩ => ⟨S100x64, .f32⟩
  | .hbm, ⟨5, _⟩ => ⟨S7x64, .f32⟩
  | .hbm, ⟨6, _⟩ => ⟨S8x64, .f32⟩
  | .hbm, ⟨7, _⟩ => ⟨S128x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S8x1x2048, .i32⟩
  | .hbm, ⟨12, _⟩ => ⟨S8x1x2048, .i32⟩
  | .hbm, ⟨13, _⟩ => ⟨S64x100, .f32⟩
  | .hbm, ⟨14, _⟩ => ⟨S64x7, .f32⟩
  | .hbm, ⟨15, _⟩ => ⟨S256x128, .f32⟩
  | .hbm, ⟨16, _⟩ => ⟨S256x1, .f32⟩
  | .hbm, ⟨17, _⟩ => ⟨S256x256, .f32⟩
  | .hbm, ⟨18, _⟩ => ⟨S256x1, .f32⟩
  | .hbm, ⟨19, _⟩ => ⟨S256x64x256, .f32⟩
  | .hbm, ⟨20, _⟩ => ⟨S256x64x4096, .bf16⟩
  | .hbm, ⟨21, _⟩ => ⟨S256x64x64x64, .bf16⟩
  | .hbm, ⟨22, _⟩ => ⟨S256x64x64x64, .f32⟩
  | .local _ .vmem, ⟨0, _⟩ => ⟨S1x1x2048, .i32⟩
  | .local _ .vmem, ⟨1, _⟩ => ⟨S1x1x2048, .i32⟩
  | .local _ .vmem, ⟨2, _⟩ => ⟨S1x1x2048, .i32⟩
  | .local _ .vmem, ⟨3, _⟩ => ⟨S1x1x2048, .i32⟩
  | .local _ .vmem, ⟨4, _⟩ => ⟨S32x64x64, .i32⟩
  | .local _ .vmem, ⟨5, _⟩ => ⟨S32x64x64, .i32⟩
  | .local _ .vmem, ⟨6, _⟩ => ⟨S64x100, .f32⟩
  | .local _ .vmem, ⟨7, _⟩ => ⟨S64x7, .f32⟩
  | .local _ .vmem, ⟨8, _⟩ => ⟨S8x64, .f32⟩
  | .local _ .vmem, ⟨9, _⟩ => ⟨S256x128, .f32⟩
  | .local _ .vmem, ⟨10, _⟩ => ⟨S256x1, .f32⟩
  | .local _ .vmem, ⟨11, _⟩ => ⟨S256x256, .f32⟩
  | .local _ .vmem, ⟨12, _⟩ => ⟨S256x1, .f32⟩
  | .local _ .vmem, ⟨13, _⟩ => ⟨S32x64x256, .f32⟩
  | .local _ .vmem, ⟨14, _⟩ => ⟨S32x64x256, .f32⟩
  | .local _ .vmem, ⟨15, _⟩ => ⟨S32x64x4096, .bf16⟩
  | .local _ .vmem, ⟨16, _⟩ => ⟨S32x64x4096, .bf16⟩
  | _, _ => ⟨S256x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_v0_0 : Ref sig .tc := ⟨.hbm, 19, rfl⟩
abbrev main_call0_v8_1 : Ref sig .tc := ⟨.hbm, 20, rfl⟩
abbrev main_call0_v9 : Ref sig .tc := ⟨.hbm, 21, rfl⟩
abbrev main_v0_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x64x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x7 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S32x64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x64x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S256x64 : Shape := ⟨2, ![256, 64]⟩
abbrev S256x64x64 : Shape := ⟨3, ![256, 64, 64]⟩
abbrev S100x64 : Shape := ⟨2, ![100, 64]⟩
abbrev S7x64 : Shape := ⟨2, ![7, 64]⟩
abbrev S8x64 : Shape := ⟨2, ![8, 64]⟩
abbrev S128x256 : Shape := ⟨2, ![128, 256]⟩
abbrev S256 : Shape := ⟨1, ![256]⟩
abbrev S256x256 : Shape := ⟨2, ![256, 256]⟩
abbrev S_ : Shape := ⟨0, ![]⟩
abbrev S256x64x1 : Shape := ⟨3, ![256, 64, 1]⟩
abbrev S1 : Shape := ⟨1, ![1]⟩
abbrev S1x1x1 : Shape := ⟨3, ![1, 1, 1]⟩
abbrev S256x64x128 : Shape := ⟨3, ![256, 64, 128]⟩
abbrev S256x64x256 : Shape := ⟨3, ![256, 64, 256]⟩
abbrev S1x1x256 : Shape := ⟨3, ![1, 1, 256]⟩
abbrev S256x64x64x1 : Shape := ⟨4, ![256, 64, 64, 1]⟩
abbrev S1x1x1x1 : Shape := ⟨4, ![1, 1, 1, 1]⟩
abbrev S256x64x64x64 : Shape := ⟨4, ![256, 64, 64, 64]⟩

abbrev nBuf : Space → Nat
  | .hbm => 98
  | .vmem => 0
  | .smem => 0
  | _ => 0

abbrev bufTy : (tb : Table) → Fin (tcTables nBuf tb) → BufTy
  | .hbm, ⟨0, _⟩ => ⟨S256x64, .i32⟩
  | .hbm, ⟨1, _⟩ => ⟨S256x64x64, .i32⟩
  | .hbm, ⟨2, _⟩ => ⟨S256x64, .i32⟩
  | .hbm, ⟨3, _⟩ => ⟨S256x64, .i32⟩
  | .hbm, ⟨4, _⟩ => ⟨S100x64, .f32⟩
  | .hbm, ⟨5, _⟩ => ⟨S7x64, .f32⟩
  | .hbm, ⟨6, _⟩ => ⟨S8x64, .f32⟩
  | .hbm, ⟨7, _⟩ => ⟨S128x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S_, .i32⟩
  | .hbm, ⟨12, _⟩ => ⟨S256x64, .i32⟩
  | .hbm, ⟨13, _⟩ => ⟨S256x64, .i1⟩
  | .hbm, ⟨14, _⟩ => ⟨S_, .i32⟩
  | .hbm, ⟨15, _⟩ => ⟨S256x64, .i32⟩
  | .hbm, ⟨16, _⟩ => ⟨S256x64, .i32⟩
  | .hbm, ⟨17, _⟩ => ⟨S256x64, .i32⟩
  | .hbm, ⟨18, _⟩ => ⟨S256x64x1, .i32⟩
  | .hbm, ⟨19, _⟩ => ⟨S1, .i32⟩
  | .hbm, ⟨20, _⟩ => ⟨S_, .i32⟩
  | .hbm, ⟨21, _⟩ => ⟨S256x64x1, .i32⟩
  | .hbm, ⟨22, _⟩ => ⟨S256x64x1, .i1⟩
  | .hbm, ⟨23, _⟩ => ⟨S1x1x1, .i32⟩
  | .hbm, ⟨24, _⟩ => ⟨S256x64x1, .i32⟩
  | .hbm, ⟨25, _⟩ => ⟨S256x64x1, .i1⟩
  | .hbm, ⟨26, _⟩ => ⟨S256x64x1, .i1⟩
  | .hbm, ⟨27, _⟩ => ⟨S_, .i1⟩
  | .hbm, ⟨28, _⟩ => ⟨S256x64, .i1⟩
  | .hbm, ⟨29, _⟩ => ⟨S256x64x64, .f32⟩
  | .hbm, ⟨30, _⟩ => ⟨S256x64x64, .i1⟩
  | .hbm, ⟨31, _⟩ => ⟨S_, .f32⟩
  | .hbm, ⟨32, _⟩ => ⟨S256x64x64, .f32⟩
  | .hbm, ⟨33, _⟩ => ⟨S256x64x64, .f32⟩
  | .hbm, ⟨34, _⟩ => ⟨S_, .i32⟩
  | .hbm, ⟨35, _⟩ => ⟨S256x64, .i32⟩
  | .hbm, ⟨36, _⟩ => ⟨S256x64, .i1⟩
  | .hbm, ⟨37, _⟩ => ⟨S_, .i32⟩
  | .hbm, ⟨38, _⟩ => ⟨S256x64, .i32⟩
  | .hbm, ⟨39, _⟩ => ⟨S256x64, .i32⟩
  | .hbm, ⟨40, _⟩ => ⟨S256x64, .i32⟩
  | .hbm, ⟨41, _⟩ => ⟨S256x64x1, .i32⟩
  | .hbm, ⟨42, _⟩ => ⟨S1, .i32⟩
  | .hbm, ⟨43, _⟩ => ⟨S_, .i32⟩
  | .hbm, ⟨44, _⟩ => ⟨S256x64x1, .i32⟩
  | .hbm, ⟨45, _⟩ => ⟨S256x64x1, .i1⟩
  | .hbm, ⟨46, _⟩ => ⟨S1x1x1, .i32⟩
  | .hbm, ⟨47, _⟩ => ⟨S256x64x1, .i32⟩
  | .hbm, ⟨48, _⟩ => ⟨S256x64x1, .i1⟩
  | .hbm, ⟨49, _⟩ => ⟨S256x64x1, .i1⟩
  | .hbm, ⟨50, _⟩ => ⟨S_, .i1⟩
  | .hbm, ⟨51, _⟩ => ⟨S256x64, .i1⟩
  | .hbm, ⟨52, _⟩ => ⟨S256x64x64, .f32⟩
  | .hbm, ⟨53, _⟩ => ⟨S256x64x64, .i1⟩
  | .hbm, ⟨54, _⟩ => ⟨S_, .f32⟩
  | .hbm, ⟨55, _⟩ => ⟨S256x64x64, .f32⟩
  | .hbm, ⟨56, _⟩ => ⟨S256x64x64, .f32⟩
  | .hbm, ⟨57, _⟩ => ⟨S256x64x128, .f32⟩
  | .hbm, ⟨58, _⟩ => ⟨S256x64x256, .f32⟩
  | .hbm, ⟨59, _⟩ => ⟨S1x1x256, .f32⟩
  | .hbm, ⟨60, _⟩ => ⟨S256x64x256, .f32⟩
  | .hbm, ⟨61, _⟩ => ⟨S256x64x256, .f32⟩
  | .hbm, ⟨62, _⟩ => ⟨S256x64x256, .f32⟩
  | .hbm, ⟨63, _⟩ => ⟨S256x64x256, .f32⟩
  | .hbm, ⟨64, _⟩ => ⟨S_, .f32⟩
  | .hbm, ⟨65, _⟩ => ⟨S256x64x256, .f32⟩
  | .hbm, ⟨66, _⟩ => ⟨S256x64x256, .f32⟩
  | .hbm, ⟨67, _⟩ => ⟨S_, .f32⟩
  | .hbm, ⟨68, _⟩ => ⟨S256x64x256, .f32⟩
  | .hbm, ⟨69, _⟩ => ⟨S256x64x256, .f32⟩
  | .hbm, ⟨70, _⟩ => ⟨S256x64x256, .f32⟩
  | .hbm, ⟨71, _⟩ => ⟨S256x64x256, .f32⟩
  | .hbm, ⟨72, _⟩ => ⟨S1x1x256, .f32⟩
  | .hbm, ⟨73, _⟩ => ⟨S256x64x256, .f32⟩
  | .hbm, ⟨74, _⟩ => ⟨S256x64x256, .f32⟩
  | .hbm, ⟨75, _⟩ => ⟨S_, .i32⟩
  | .hbm, ⟨76, _⟩ => ⟨S256x64x64, .i32⟩
  | .hbm, ⟨77, _⟩ => ⟨S256x64x64, .i1⟩
  | .hbm, ⟨78, _⟩ => ⟨S_, .i32⟩
  | .hbm, ⟨79, _⟩ => ⟨S256x64x64, .i32⟩
  | .hbm, ⟨80, _⟩ => ⟨S256x64x64, .i32⟩
  | .hbm, ⟨81, _⟩ => ⟨S256x64x64, .i32⟩
  | .hbm, ⟨82, _⟩ => ⟨S256x64x64x1, .i32⟩
  | .hbm, ⟨83, _⟩ => ⟨S1, .i32⟩
  | .hbm, ⟨84, _⟩ => ⟨S_, .i32⟩
  | .hbm, ⟨85, _⟩ => ⟨S256x64x64x1, .i32⟩
  | .hbm, ⟨86, _⟩ => ⟨S256x64x64x1, .i1⟩
  | .hbm, ⟨87, _⟩ => ⟨S1x1x1x1, .i32⟩
  | .hbm, ⟨88, _⟩ => ⟨S256x64x64x1, .i32⟩
  | .hbm, ⟨89, _⟩ => ⟨S256x64x64x1, .i1⟩
  | .hbm, ⟨90, _⟩ => ⟨S256x64x64x1, .i1⟩
  | .hbm, ⟨91, _⟩ => ⟨S_, .i1⟩
  | .hbm, ⟨92, _⟩ => ⟨S256x64x64, .i1⟩
  | .hbm, ⟨93, _⟩ => ⟨S256x64x64x64, .f32⟩
  | .hbm, ⟨94, _⟩ => ⟨S256x64x64x64, .i1⟩
  | .hbm, ⟨95, _⟩ => ⟨S_, .f32⟩
  | .hbm, ⟨96, _⟩ => ⟨S256x64x64x64, .f32⟩
  | .hbm, ⟨97, _⟩ => ⟨S256x64x64x64, .f32⟩
  | _, _ => ⟨S256x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v1 : Ref sig .tc := ⟨.hbm, 56, rfl⟩
abbrev main_v2 : Ref sig .tc := ⟨.hbm, 57, rfl⟩
abbrev main_v3 : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_cst : Ref sig .tc := ⟨.hbm, 64, rfl⟩
abbrev main_v9 : Ref sig .tc := ⟨.hbm, 65, rfl⟩
abbrev main_v10 : Ref sig .tc := ⟨.hbm, 66, rfl⟩
abbrev main_cst_0 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v18 : Ref sig .tc := ⟨.hbm, 97, rfl⟩

abbrev nD : Nat := 1
abbrev τ : Topo := Topo.v7x

variable {F : FTy → Type} [FloatOps F]
-- ==== Proof.Blocks.lean ====
/- What the launch's input blocks hold, read from the arguments: block `t` of the three word arrays is molecules `32 t` to `32 t + 31`, and every other block is a whole table, weight or
   bias, transposed or reshaped on the host. -/
module

public import proofs.«01_k».proof.Proof.Gen.KernelIdeal.Frame
public import Idealize.ShloMosaic.Lib.Pipeline.ValueKit.Geometry
public import Idealize.ShloMosaic.Lib.ValueLayout
public import Idealize.ShloMosaic.Lib.ValueLayoutCasts
public import Idealize.ShloMosaic.PureOps.Ideal.Laws

@[expose] public section

noncomputable section

namespace Cert.Blocks

open Idealize.ShloMosaic Idealize.ShloMosaic.ValueIdx Idealize.ShloMosaic.Pipeline Idealize.SL.Sem Cert.KernelIdeal Cert.KernelIdeal.Gen

/-- Molecule `a` of block `t`, counted in the whole batch. -/
abbrev molecule (t : Fin cfg0.N) (a : Fin 32) : Fin 256 := ⟨t.val * 32 + a.val, by have h : t.val < 8 := t.isLt; omega⟩

/-- The blocks of the word arrays and of the results go by the grid's point. -/
theorem by_point : ∀ t : Fin cfg0.N, win0_0.index t = ![t.val, 0, 0] ∧ win0_1.index t = ![t.val, 0, 0] ∧ win0_2.index t = ![t.val, 0, 0]
    ∧ win0_10.index t = ![t.val, 0, 0] ∧ win0_11.index t = ![t.val, 0, 0] := (by decide +kernel : ∀ t : Fin grid0.N, _)

/-- Every table, weight and bias is one block, the same at every point. -/
theorem whole : ∀ t : Fin cfg0.N, win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] := (by decide +kernel : ∀ t : Fin grid0.N, _)

variable (m : (ℓ : Loc nD τ sig) → Buf (Elt Ideal) ℓ) (c : Dev nD) (t : Fin cfg0.N)

/-- What the launch finds in the eight arrays the host prepared: two word arrays regrouped, four matrices transposed, two biases made columns. -/
theorem entry :
    V m c main_call0_v0 = shapeCast S8x1x2048 (m ((c.tc : Thread nD τ).loc main_arg0) : IVec S256x64 32) shapeCasts_S256x64_S8x1x2048
    ∧ V m c main_call0_v1 = shapeCast S8x1x2048 (m ((c.tc : Thread nD τ).loc main_arg3) : IVec S256x64 32) shapeCasts_S256x64_S8x1x2048
    ∧ V m c main_call0_v2 = transpose S64x100 [1, 0] (m ((c.tc : Thread nD τ).loc main_arg4) : FVec Ideal S100x64 .f32) transposes_S100x64_S64x100_1_0
    ∧ V m c main_call0_v3 = transpose S64x7 [1, 0] (m ((c.tc : Thread nD τ).loc main_arg5) : FVec Ideal S7x64 .f32) transposes_S7x64_S64x7_1_0
    ∧ V m c main_call0_v4 = transpose S256x128 [1, 0] (m ((c.tc : Thread nD τ).loc main_arg7) : FVec Ideal S128x256 .f32) transposes_S128x256_S256x128_1_0
    ∧ V m c main_call0_v5 = shapeCast S256x1 (m ((c.tc : Thread nD τ).loc main_arg8) : FVec Ideal S256 .f32) shapeCasts_S256_S256x1
    ∧ V m c main_call0_v6 = transpose S256x256 [1, 0] (m ((c.tc : Thread nD τ).loc main_arg9) : FVec Ideal S256x256 .f32) transposes_S256x256_S256x256_1_0
    ∧ V m c main_call0_v7 = shapeCast S256x1 (m ((c.tc : Thread nD τ).loc main_arg10) : FVec Ideal S256 .f32) shapeCasts_S256_S256x1 := by
  simp only [V, V0, hostOps0, List.flatten_cons, List.flatten_nil, List.append_nil, StableHlo.TRef.unary, StableHlo.TRef.reshape, StableHlo.TRef.toBuf, StableHlo.TRef.ofBuf, cast_eq]
  refine ⟨?_, ?_, ?_, ?_, ?_, ?_, ?_, ?_⟩ <;> (after_results_simp <;> rfl)

/-- A word array regrouped by blocks, read at molecule `a`, atom `b` of block `t`. -/
theorem regrouped (x : IVec S256x64 32) (a : Fin 32) (b : Fin 64) (p : Fin 2048) (hp : p.val = a.val * 64 + b.val) :
    shapeCast S8x1x2048 x shapeCasts_S256x64_S8x1x2048 (ix3 ⟨t.val, t.isLt⟩ 0 p) = x (ix2 (molecule t a) b) :=
  shapeCast_apply (k := ix2 (molecule t a) b) (hk := by
    rw [Shape.rowMajor_val_three, Shape.rowMajor_val_two]
    show (t.val * 32 + a.val) * 64 + b.val = (t.val * 1 + 0) * 2048 + p.val
    omega) ..

/-- The atom words of block `t`. -/
theorem atoms (a : Fin 32) (b : Fin 64) (p : Fin 2048) (hp : p.val = a.val * 64 + b.val) :
    iblk m c 0 t (ix3 0 0 p) = m ((c.tc : Thread nD τ).loc main_arg0) (ix2 (molecule t a) b) := by
  have e : (win0_0.blk t).view.emb (ix3 (n0 := 1) (n1 := 1) 0 0 p) = (ix3 ⟨t.val, t.isLt⟩ 0 p : S8x1x2048.Idx) := by blk_ext [by_point]
  exact (congrFun (entry m c).1 _).trans ((congrArg _ e).trans (regrouped t _ a b p hp))

/-- The charge words of block `t`. -/
theorem charges (a : Fin 32) (b : Fin 64) (p : Fin 2048) (hp : p.val = a.val * 64 + b.val) :
    iblk m c 1 t (ix3 0 0 p) = m ((c.tc : Thread nD τ).loc main_arg3) (ix2 (molecule t a) b) := by
  have e : (win0_1.blk t).view.emb (ix3 (n0 := 1) (n1 := 1) 0 0 p) = (ix3 ⟨t.val, t.isLt⟩ 0 p : S8x1x2048.Idx) := by blk_ext [by_point]
  exact (congrFun (entry m c).2.1 _).trans ((congrArg _ e).trans (regrouped t _ a b p hp))

/-- The pair words of block `t`. -/
theorem pairs (a : Fin 32) (i j : Fin 64) : iblk m c 2 t (ix3 a i j) = m ((c.tc : Thread nD τ).loc main_arg1) (ix3 (molecule t a) i j) := by
  have e : (win0_2.blk t).view.emb (ix3 a i j) = (ix3 (molecule t a) i j : S256x64x64.Idx) := by blk_ext [by_point]
  exact (congrFun (V_main_arg1 m c) _).trans (congrArg _ e)

/-- The pair table is the argument itself. -/
theorem pair_table : iblk m c 5 t = m ((c.tc : Thread nD τ).loc main_arg6) := by
  funext i
  have e : (win0_5.blk t).view.emb i = i := by blk_ext [whole]
  exact (congrFun (V_main_arg6 m c) _).trans (congrArg _ e)

/-- A transposed matrix, its two coordinates swapped back, is the matrix. -/
theorem swapped {r k : ℕ} (x : (⟨2, ![r, k]⟩ : Shape).Idx → EReal) (h : (⟨2, ![r, k]⟩ : Shape).Transposes [1, 0] ⟨2, ![k, r]⟩) (i : (⟨2, ![r, k]⟩ : Shape).Idx) :
    transpose ⟨2, ![k, r]⟩ [1, 0] x h (ix2 (i 1) (i 0)) = x i :=
  (transpose_ix2_apply x h (i 1) (i 0)).trans (congrArg x (eq_ix2 i).symm)

/-- The atom table, seen by rows. -/
theorem atom_table : (fun i : S100x64.Idx => iblk m c 3 t (ix2 (i 1) (i 0))) = m ((c.tc : Thread nD τ).loc main_arg4) := by
  funext i
  have e : (win0_3.blk t).view.emb (ix2 (i 1) (i 0)) = (ix2 (i 1) (i 0) : S64x100.Idx) := by blk_ext [whole]
  exact (congrFun (entry m c).2.2.1 _).trans ((congrArg _ e).trans (swapped _ _ i))

/-- The charge table, seen by rows. -/
theorem charge_table : (fun i : S7x64.Idx => iblk m c 4 t (ix2 (i 1) (i 0))) = m ((c.tc : Thread nD τ).loc main_arg5) := by
  funext i
  have e : (win0_4.blk t).view.emb (ix2 (i 1) (i 0)) = (ix2 (i 1) (i 0) : S64x7.Idx) := by blk_ext [whole]
  exact (congrFun (entry m c).2.2.2.1 _).trans ((congrArg _ e).trans (swapped _ _ i))

/-- The first layer's weights, seen by inputs. -/
theorem weights₁ : (fun i : S128x256.Idx => iblk m c 6 t (ix2 (i 1) (i 0))) = m ((c.tc : Thread nD τ).loc main_arg7) := by
  funext i
  have e : (win0_6.blk t).view.emb (ix2 (i 1) (i 0)) = (ix2 (i 1) (i 0) : S256x128.Idx) := by blk_ext [whole]
  exact (congrFun (entry m c).2.2.2.2.1 _).trans ((congrArg _ e).trans (swapped _ _ i))

/-- The second layer's weights, seen by inputs. -/
theorem weights₂ : (fun i : S256x256.Idx => iblk m c 8 t (ix2 (i 1) (i 0))) = m ((c.tc : Thread nD τ).loc main_arg9) := by
  funext i
  have e : (win0_8.blk t).view.emb (ix2 (i 1) (i 0)) = (ix2 (i 1) (i 0) : S256x256.Idx) := by blk_ext [whole]
  exact (congrFun (entry m c).2.2.2.2.2.2.1 _).trans ((congrArg _ e).trans (swapped _ _ i))

/-- The first layer's bias column is the bias. -/
theorem bias₁ : (fun i : S256.Idx => iblk m c 7 t (ix2 (i 0) 0)) = m ((c.tc : Thread nD τ).loc main_arg8) := by
  funext i
  have e : (win0_7.blk t).view.emb (ix2 (n1 := 1) (i 0) 0) = (ix2 (i 0) 0 : S256x1.Idx) := by blk_ext [whole]
  exact (congrFun (entry m c).2.2.2.2.2.1 _).trans ((congrArg _ e).trans ((shapeCast_a_a1_apply ..).trans (congrArg _ (eq_ix1 i).symm)))

/-- The second layer's bias column is the bias. -/
theorem bias₂ : (fun i : S256.Idx => iblk m c 9 t (ix2 (i 0) 0)) = m ((c.tc : Thread nD τ).loc main_arg10) := by
  funext i
  have e : (win0_9.blk t).view.emb (ix2 (n1 := 1) (i 0) 0) = (ix2 (i 0) 0 : S256x1.Idx) := by blk_ext [whole]
  exact (congrFun (entry m c).2.2.2.2.2.2.2 _).trans ((congrArg _ e).trans ((shapeCast_a_a1_apply ..).trans (congrArg _ (eq_ix1 i).symm)))

end Cert.Blocks

end
-- ==== Proof.Spec.lean ====
/- What the two results are, in plain mathematics over the extended reals: every entry as a function of the argument arrays. The kernel's run and the reference's run are each
   shown to leave these entries; nothing here speaks of either program. -/
module

public import Idealize.ShloMosaic.PureOps.Ideal.Laws
public import Idealize.ShloMosaic.Lib.ValueIdx

@[expose] public section

noncomputable section

namespace Cert.Spec

open Idealize.ShloMosaic Idealize.ShloMosaic.ValueIdx

/-- The table row an index word names: the word read as a natural number, wrapped into the table. Only words below the table's height are ever given to it. -/
def row (n : Nat) [NeZero n] (x : BitVec 32) : Fin n := Fin.ofNat n x.toNat

/-- For a word below the table's height the row is the word itself. -/
theorem row_val {n : Nat} [NeZero n] {x : BitVec 32} (h : x.toNat < n) : (row n x).val = x.toNat := Nat.mod_eq_of_lt h

variable (atoms : (⟨2, ![100, 64]⟩ : Shape).Idx → EReal) (charges : (⟨2, ![7, 64]⟩ : Shape).Idx → EReal) (bonds : (⟨2, ![8, 64]⟩ : Shape).Idx → EReal)
  (W₁ : (⟨2, ![128, 256]⟩ : Shape).Idx → EReal) (b₁ : (⟨1, ![256]⟩ : Shape).Idx → EReal) (W₂ : (⟨2, ![256, 256]⟩ : Shape).Idx → EReal) (b₂ : (⟨1, ![256]⟩ : Shape).Idx → EReal)

/-- Feature `e` of an atom of type `a` and charge `q`: the atom table's row followed by the charge table's row. -/
def feature (a q : BitVec 32) (e : Fin 128) : EReal :=
  if h : e.val < 64 then atoms (ix2 (row 100 a) ⟨e.val, h⟩) else charges (ix2 (row 7 q) ⟨e.val - 64, by omega⟩)

/-- The first layer of the perceptron at one atom, before its activation. -/
def hidden (a q : BitVec 32) (j : Fin 256) : EReal := (∑ e : Fin 128, feature atoms charges a q e * W₁ (ix2 e j)) + b₁ (ix1 j)

/-- The activation `x · σ(x)`. -/
def silu (x : EReal) : EReal := x * Ideal.logistic x

/-- Entry `d` of the first result at one atom: the second layer over the activated first. -/
def node (a q : BitVec 32) (d : Fin 256) : EReal := (∑ j : Fin 256, silu (hidden atoms charges W₁ b₁ a q j) * W₂ (ix2 j d)) + b₂ (ix1 d)

/-- Entry `e` of the second result at one pair of atoms with a bond of type `t`: the bond table's row. -/
def edge (t : BitVec 32) (e : Fin 64) : EReal := bonds (ix2 (row 8 t) e)

end Cert.Spec

end
-- ==== Proof.Words.lean ====
/- The index words the kernel computes with, and sums against a one-hot column. Quotients and remainders of small lane numbers are decided over every lane; a sum whose terms
   carry the factor "this is the marked place" is its one marked term. -/
module

public import proofs.«01_k».proof.Proof.Spec
public import Idealize.ShloMosaic.Lib.WordCmp
public import Idealize.ShloMosaic.Lib.IdealHost

@[expose] public section

noncomputable section

namespace Cert.Words

open Idealize.ShloMosaic Idealize.ShloMosaic.ValueIdx Idealize.ShloMosaic.WordCmp Cert.Spec

/-- The sign of a word as the difference of two comparison bits. -/
def sgn (x : BitVec 32) : BitVec 32 := IntOp.subi ((IntOp.cmpi .sgt x 0#32).setWidth 32) ((IntOp.cmpi .slt x 0#32).setWidth 32)

/-- Division rounding down, from the truncating one: one less when the signs differ and the remainder is not zero. -/
def quot (x d : BitVec 32) : BitVec 32 :=
  Scalar.select (IntOp.andi (IntOp.cmpi .ne (sgn x) (sgn d)) (IntOp.cmpi .ne (IntOp.remsi .vector x d) 0#32))
    (IntOp.subi (IntOp.divsi .vector x d) 1#32) (IntOp.divsi .vector x d)

/-- The remainder that takes the divisor's sign (the divisor replaced by one if it is zero). -/
def rest (x d : BitVec 32) : BitVec 32 :=
  let e := Scalar.select (IntOp.cmpi .eq d 0#32) 1#32 d
  let r := IntOp.remsi .vector x e
  Scalar.select (IntOp.andi (IntOp.xori (IntOp.cmpi .slt r 0#32) (IntOp.cmpi .slt e 0#32)) (IntOp.cmpi .ne r 0#32)) (IntOp.addi r e) r

/-- Lane `n` of 512 divided by 8. -/
theorem quot_eight : ∀ n : Fin 512, quot (BitVec.ofNat 32 n.val) 8#32 = BitVec.ofNat 32 (n.val / 8) := by decide +kernel

/-- Lane `n` of 512 divided by 64. -/
theorem quot_sixtyfour : ∀ n : Fin 512, quot (BitVec.ofNat 32 n.val) 64#32 = BitVec.ofNat 32 (n.val / 64) := by decide +kernel

/-- Lane `n` of 512 modulo 8. -/
theorem rest_eight : ∀ n : Fin 512, rest (BitVec.ofNat 32 n.val) 8#32 = BitVec.ofNat 32 (n.val % 8) := by decide +kernel

/-- A truth bit widened to a word and read as a number: one if it holds, zero if it does not. -/
def mark (b : BitVec 1) : EReal := (((b.setWidth 32).toInt : ℝ) : EReal)

/-- The number of a decided truth bit. -/
theorem mark_ofBool (p : Prop) [Decidable p] : mark (BitVec.ofBool (decide p)) = if p then 1 else 0 := by
  unfold mark
  by_cases h : p
  · rw [if_pos h, decide_eq_true h]
    show (((1 : ℤ) : ℝ) : EReal) = 1
    norm_num
  · rw [if_neg h, decide_eq_false h]
    show (((0 : ℤ) : ℝ) : EReal) = 0
    norm_num

/-- The number of "word `n` equals word `x`", for a small number `n`. -/
theorem mark_eq (n : Nat) (hn : n < 2 ^ 32) (x : BitVec 32) : mark (IntOp.cmpi .eq (BitVec.ofNat 32 n) x) = if n = x.toNat then 1 else 0 := by
  rw [cmpi_eq_eq, mark_ofBool]
  refine if_congr ⟨fun h => ?_, fun h => ?_⟩ rfl rfl
  · rw [← h, BitVec.toNat_ofNat, Nat.mod_eq_of_lt hn]
  · rw [h, BitVec.ofNat_toNat, BitVec.setWidth_eq]

/-- A sum against "the place is `k₀`" is the term at `k₀`. -/
theorem sum_mark {n : Nat} (k₀ : Nat) (hk : k₀ < n) (f : Fin n → EReal) : ∑ k : Fin n, f k * (if k.val = k₀ then 1 else 0) = f ⟨k₀, hk⟩ := by
  rw [Finset.sum_eq_single (⟨k₀, hk⟩ : Fin n)]
  · rw [if_pos rfl, mul_one]
  · intro k _ hne
    rw [if_neg (fun h => hne (Fin.ext h)), mul_zero]
  · exact fun h => absurd (Finset.mem_univ _) h

/-- A sum of table entries against "row `k` is the row of word `x`" is the table at that row. -/
theorem sum_oneHot {n : Nat} [NeZero n] (hn : n ≤ 2 ^ 32) (x : BitVec 32) (hx : x.toNat < n) (f : Fin n → EReal) :
    ∑ k : Fin n, f k * mark (IntOp.cmpi .eq (BitVec.ofNat 32 k.val) x) = f (row n x) := by
  have e : ∀ k : Fin n, mark (IntOp.cmpi .eq (BitVec.ofNat 32 k.val) x) = if k.val = x.toNat then 1 else 0 :=
    fun k => mark_eq k.val (by omega) x
  rw [Finset.sum_congr rfl fun k _ => by rw [e k], sum_mark x.toNat hx f]
  exact congrArg f (Fin.ext (row_val hx).symm)

end Cert.Words

end
-- ==== Proof.NodeBlock.lean ====
/- What one grid point leaves in its block of the first result. The body looks every atom's two words up by multiplying the transposed tables with one-hot matrices, puts the two
   halves together, and runs the two layers with the atoms along the columns. Read at an entry, the block is `node` of the tables and the two words. -/
module

public import proofs.«01_k».proof.Proof.Words
public import proofs.«01_k».proof.Proof.Gen.KernelIdeal.Frame
public import Idealize.ShloMosaic.Lib.Pipeline.Value
public import Idealize.ShloMosaic.Lib.MatmulPlain
public import Idealize.ShloMosaic.Lib.ValueLayout

@[expose] public section

noncomputable section

namespace Cert.NodeBlock

open Idealize.ShloMosaic Idealize.ShloMosaic.ValueIdx Cert.KernelIdeal Cert.KernelIdeal.Gen Cert.Spec Cert.Words

/-- The one-hot matrix of a row of words: at row `k` and column `p` the number of "word `p` is `k`". -/
theorem oneHot_apply {n : Nat} (w : IVec S1x2048 32) (hi : (⟨2, ![n, 2048]⟩ : Shape).Iotas .tc 32 [0]) (hb : S1x2048.Broadcasts ⟨2, ![n, 2048]⟩) (hl : 1 < 32)
    (k : Fin n) (p : Fin 2048) :
    sitofp (F := Ideal) .f32 (extui 32 (cmpi .eq (iota .tc ⟨2, ![n, 2048]⟩ 32 [0] hi) (broadcastTo ⟨2, ![n, 2048]⟩ w hb)) hl) (ix2 k p)
      = mark (IntOp.cmpi .eq (BitVec.ofNat 32 k.val) (w (ix2 0 p))) := by
  have hw : broadcastTo ⟨2, ![n, 2048]⟩ w hb (ix2 k p) = w (ix2 0 p) := broadcastTo_apply w hb _ _ fun d => match d with
    | ⟨0, _⟩ => rfl
    | ⟨1, _⟩ => rfl
  have e : sitofp (F := Ideal) .f32 (extui 32 (cmpi .eq (iota .tc ⟨2, ![n, 2048]⟩ 32 [0] hi) (broadcastTo ⟨2, ![n, 2048]⟩ w hb)) hl) (ix2 k p)
      = mark (IntOp.cmpi .eq (iota .tc ⟨2, ![n, 2048]⟩ 32 [0] hi (ix2 k p)) (broadcastTo ⟨2, ![n, 2048]⟩ w hb (ix2 k p))) := rfl
  rw [e, hw, iota_single_apply]
  rfl

/-- A transposed table times a one-hot matrix: the table's column that each word names. -/
theorem lookup_apply {n : Nat} [NeZero n] (hn : n ≤ 2 ^ 32) (T : FVec Ideal ⟨2, ![64, n]⟩ .f32) (w : IVec S1x2048 32) (hi : (⟨2, ![n, 2048]⟩ : Shape).Iotas .tc 32 [0])
    (hb : S1x2048.Broadcasts ⟨2, ![n, 2048]⟩) (hl : 1 < 32) (e : Fin 64) (p : Fin 2048) (hx : (w (ix2 0 p)).toNat < n) :
    FloatOps.matmul (F := Ideal) (DotDims.plain 64 n 2048) none T
        (sitofp (F := Ideal) .f32 (extui 32 (cmpi .eq (iota .tc ⟨2, ![n, 2048]⟩ 32 [0] hi) (broadcastTo ⟨2, ![n, 2048]⟩ w hb)) hl))
        (constant (F := Ideal) S64x2048 .f32 0x00000000#32) (ix2 e p)
      = T (ix2 e (row n (w (ix2 0 p)))) := by
  rw [Ideal.matmul_plain_apply, constant_apply, Ideal.ofBits_zero_f32, zero_add]
  rw [Finset.sum_congr rfl fun k _ => by rw [oneHot_apply w hi hb hl k p]]
  exact sum_oneHot hn _ hx fun k => T (ix2 e k)

variable (a q : Vec Ideal S1x1x2048 .i32) (Ta : Vec Ideal S64x100 .f32) (Tq : Vec Ideal S64x7 .f32) (U₁ : Vec Ideal S256x128 .f32) (c₁ : Vec Ideal S256x1 .f32)
  (U₂ : Vec Ideal S256x256 .f32) (c₂ : Vec Ideal S256x1 .f32)

/-- The matrix of features the body builds: the atoms' columns above the charges' columns. -/
def features : FVec Ideal S128x2048 .f32 :=
  concatenate S128x2048 0
    [⟨S64x2048, matmul (φ₁ := .f32) dot_S64x100_S100x2048_S64x2048_1_0_0_1_n_n none (shapeCast S64x100 Ta shapeCasts_S64x100_S64x100)
        (sitofp .f32 (extui 32 (cmpi .eq (iota .tc S100x2048 32 [0] iota_S100x2048_d0_w32)
          (broadcastTo S100x2048 (shapeCast S1x2048 a shapeCasts_S1x1x2048_S1x2048) broadcasts_S1x2048_S100x2048)) natLt_1_32)) (constant S64x2048 .f32 0x00000000#32)⟩,
     ⟨S64x2048, matmul (φ₁ := .f32) dot_S64x7_S7x2048_S64x2048_1_0_0_1_n_n none (shapeCast S64x7 Tq shapeCasts_S64x7_S64x7)
        (sitofp .f32 (extui 32 (cmpi .eq (iota .tc S7x2048 32 [0] iota_S7x2048_d0_w32)
          (broadcastTo S7x2048 (shapeCast S1x2048 q shapeCasts_S1x1x2048_S1x2048) broadcasts_S1x2048_S7x2048)) natLt_1_32)) (constant S64x2048 .f32 0x00000000#32)⟩]
    concatenates_S64x2048_S64x2048_S128x2048_d0

/-- The features read at an entry, for words below the tables' heights. -/
theorem features_apply (e : Fin 128) (p : Fin 2048) (ha : (a (ix3 0 0 p)).toNat < 100) (hq : (q (ix3 0 0 p)).toNat < 7) :
    features a q Ta Tq (ix2 e p) = feature (fun i => Ta (ix2 (i 1) (i 0))) (fun i => Tq (ix2 (i 1) (i 0))) (a (ix3 0 0 p)) (q (ix3 0 0 p)) e := by
  have ea : shapeCast S1x2048 a shapeCasts_S1x1x2048_S1x2048 (ix2 0 p) = a (ix3 0 0 p) := shapeCast_1ab_ab_apply a _ 0 p
  have eq : shapeCast S1x2048 q shapeCasts_S1x1x2048_S1x2048 (ix2 0 p) = q (ix3 0 0 p) := shapeCast_1ab_ab_apply q _ 0 p
  unfold features feature
  rw [shapeCast_self Ta, shapeCast_self Tq]
  by_cases h : e.val < 64
  · rw [dif_pos h]
    refine (concatenate_pair_apply_left (t := S128x2048) (s₁ := S64x2048) (s₂ := S64x2048) 0 _ _ _ _ rfl (ix2 ⟨e.val, h⟩ p) fun d => match d with
      | ⟨0, _⟩ => rfl
      | ⟨1, _⟩ => rfl).trans ?_
    refine (lookup_apply (n := 100) (by norm_num) Ta _ _ _ _ ⟨e.val, h⟩ p (by rw [ea]; exact ha)).trans ?_
    rw [ea]
  · rw [dif_neg h]
    refine (concatenate_pair_apply_right (t := S128x2048) (s₁ := S64x2048) (s₂ := S64x2048) 0 _ _ _ _ rfl rfl (ix2 ⟨e.val - 64, by omega⟩ p) (fun d hd => match d, hd with
      | ⟨0, _⟩, hd => absurd rfl hd
      | ⟨1, _⟩, _ => rfl) (by show e.val - 64 + 64 = e.val; omega)).trans ?_
    refine (lookup_apply (n := 7) (by norm_num) Tq _ _ _ _ ⟨e.val - 64, by omega⟩ p (by rw [eq]; exact hq)).trans ?_
    rw [eq]

/-- One layer of the body at an entry: the weights' row against the column, plus the row's bias. -/
theorem layer_apply {K : Nat} (U : FVec Ideal ⟨2, ![256, K]⟩ .f32) (c : FVec Ideal S256x1 .f32) (X : FVec Ideal ⟨2, ![K, 2048]⟩ .f32) (hb : S256x1.Broadcasts S256x2048)
    (j : Fin 256) (p : Fin 2048) :
    addf (F := Ideal) (FloatOps.matmul (F := Ideal) (DotDims.plain 256 K 2048) none U X (constant (F := Ideal) S256x2048 .f32 0x00000000#32)) (broadcastTo S256x2048 c hb) (ix2 j p)
      = (∑ k : Fin K, X (ix2 k p) * U (ix2 j k)) + c (ix2 j 0) := by
  have hc : broadcastTo S256x2048 c hb (ix2 j p) = c (ix2 j 0) := broadcastTo_apply c hb _ _ fun d => match d with
    | ⟨0, _⟩ => rfl
    | ⟨1, _⟩ => rfl
  refine (addf_apply _ _ _).trans ?_
  rw [hc, Ideal.matmul_plain_apply, constant_apply, Ideal.ofBits_zero_f32, zero_add]
  exact congrArg (· + _) (Finset.sum_congr rfl fun k _ => mul_comm _ _)

/-- The body's second layer at an entry, for words below the tables' heights: `node` of the transposed operands. -/
theorem perceptron_apply (d : Fin 256) (p : Fin 2048) (ha : (a (ix3 0 0 p)).toNat < 100) (hq : (q (ix3 0 0 p)).toNat < 7) :
    k0_pay6 a q Ta Tq U₁ c₁ U₂ c₂ (ix2 d p)
      = node (fun i => Ta (ix2 (i 1) (i 0))) (fun i => Tq (ix2 (i 1) (i 0))) (fun i => U₁ (ix2 (i 1) (i 0))) (fun i => c₁ (ix2 (i 0) 0))
          (fun i => U₂ (ix2 (i 1) (i 0))) (fun i => c₂ (ix2 (i 0) 0)) (a (ix3 0 0 p)) (q (ix3 0 0 p)) d := by
  have e : k0_pay6 a q Ta Tq U₁ c₁ U₂ c₂
      = (let h : FVec Ideal S256x2048 .f32 := addf (FloatOps.matmul (F := Ideal) (DotDims.plain 256 128 2048) none (shapeCast S256x128 U₁ shapeCasts_S256x128_S256x128)
            (features a q Ta Tq) (constant (F := Ideal) S256x2048 .f32 0x00000000#32)) (broadcastTo S256x2048 (shapeCast S256x1 c₁ shapeCasts_S256x1_S256x1) broadcasts_S256x1_S256x2048)
         addf (FloatOps.matmul (F := Ideal) (DotDims.plain 256 256 2048) none (shapeCast S256x256 U₂ shapeCasts_S256x256_S256x256)
            (mulf h (logistic h)) (constant (F := Ideal) S256x2048 .f32 0x00000000#32)) (broadcastTo S256x2048 (shapeCast S256x1 c₂ shapeCasts_S256x1_S256x1) broadcasts_S256x1_S256x2048)) := rfl
  rw [e, shapeCast_self U₁, shapeCast_self U₂, shapeCast_self c₁, shapeCast_self c₂]
  refine (layer_apply U₂ c₂ _ _ d p).trans ?_
  unfold node
  refine congrArg (· + _) (Finset.sum_congr rfl fun j _ => congrArg (· * _) ?_)
  have hh := layer_apply U₁ c₁ (features a q Ta Tq) broadcasts_S256x1_S256x2048 j p
  refine (congrArg silu hh).trans (congrArg silu ?_)
  unfold Spec.hidden
  refine congrArg (· + _) (Finset.sum_congr rfl fun k _ => congrArg (· * _) ?_)
  exact features_apply a q Ta Tq k p ha hq

/-- WHAT A GRID POINT LEAVES IN ITS BLOCK OF THE FIRST RESULT, for words below the tables' heights: at row `a`, atom `b` and feature `d`, `node` of the words at column `64 a + b`. -/
theorem out_eq (x0 : Vec Ideal S1x1x2048 .i32) (x1 : Vec Ideal S1x1x2048 .i32) (x2 : Vec Ideal S32x64x64 .i32) (x3 : Vec Ideal S64x100 .f32) (x4 : Vec Ideal S64x7 .f32)
    (x5 : Vec Ideal S8x64 .f32) (x6 : Vec Ideal S256x128 .f32) (x7 : Vec Ideal S256x1 .f32) (x8 : Vec Ideal S256x256 .f32) (x9 : Vec Ideal S256x1 .f32)
    (a : Fin 32) (b : Fin 64) (d : Fin 256) (p : Fin 2048) (hp : p.val = a.val * 64 + b.val) (h0 : (x0 (ix3 0 0 p)).toNat < 100) (h1 : (x1 (ix3 0 0 p)).toNat < 7) :
    out0_10 x0 x1 x2 x3 x4 x5 x6 x7 x8 x9 (ix3 a b d)
      = node (fun i => x3 (ix2 (i 1) (i 0))) (fun i => x4 (ix2 (i 1) (i 0))) (fun i => x6 (ix2 (i 1) (i 0))) (fun i => x7 (ix2 (i 0) 0))
          (fun i => x8 (ix2 (i 1) (i 0))) (fun i => x9 (ix2 (i 0) 0)) (x0 (ix3 0 0 p)) (x1 (ix3 0 0 p)) d := by
  have z2 : ∀ s : Fin 2 → Nat, s = ![0, 0] → s = 0 := fun s h => by rw [h]; funext i; fin_cases i <;> rfl
  have z3 : (![0, 0, 0] : Fin 3 → Nat) = 0 := by funext i; fin_cases i <;> rfl
  unfold out0_10
  rw [View.ld_unit_zero (S := S1x1x2048) z3 _ x0, View.ld_unit_zero (S := S1x1x2048) z3 _ x1, View.ld_unit_zero (S := S64x100) (z2 _ rfl) _ x3,
    View.ld_unit_zero (S := S64x7) (z2 _ rfl) _ x4, View.ld_unit_zero (S := S256x128) (z2 _ rfl) _ x6, View.ld_unit_zero (S := S256x1) (z2 _ rfl) _ x7,
    View.ld_unit_zero (S := S256x256) (z2 _ rfl) _ x8, View.ld_unit_zero (S := S256x1) (z2 _ rfl) _ x9]
  refine (congrFun (View.canon_unit_zero z3 _ _) _).trans ?_
  unfold k0_pay7
  rw [shapeCast_apply (k := ix2 p d) (hk := by
    rw [Shape.rowMajor_val_three, Shape.rowMajor_val_two]
    show p.val * 256 + d.val = (a.val * 64 + b.val) * 256 + d.val
    rw [hp])]
  exact (transpose_ix2_apply _ _ p d).trans (perceptron_apply x0 x1 x3 x4 x6 x7 x8 x9 d p h0 h1)

end Cert.NodeBlock

end
-- ==== Proof.EdgeBlock.lean ====
/- What one grid point leaves in its block of the second result. The body writes the bond table along the diagonal blocks of a 64 × 512 matrix, marks in a 2048 × 512 matrix
   which bond type every pair has, and multiplies the two, 64 columns of marks at a time. Read at an entry, each product is the bond table's row of that pair's type. -/
module

public import proofs.«01_k».proof.Proof.Words
public import proofs.«01_k».proof.Proof.Gen.KernelIdeal.Frame
public import Idealize.ShloMosaic.Lib.Pipeline.Value
public import Idealize.ShloMosaic.Lib.MatmulPlain

@[expose] public section

noncomputable section

namespace Cert.EdgeBlock

open Idealize.ShloMosaic Idealize.ShloMosaic.ValueIdx Idealize.ShloMosaic.WordCmp Cert.KernelIdeal Cert.KernelIdeal.Gen Cert.Spec Cert.Words

/-- The table copied eight times across and eight times down, at row `r` and column `c`: the table at `r` modulo 8 and `c` modulo 64. -/
theorem tiled_apply (B : Vec Ideal S8x64 .f32) (r : Fin 64) (c : Fin 512) :
    k0_pay8 B (ix2 r c) = B (ix2 ⟨r.val % 8, by omega⟩ ⟨c.val % 64, by omega⟩) := by
  unfold k0_pay8
  refine (concatenate_replicate_apply (t := S64x512) (s₁ := S8x512) 0 8 _ _ rfl (ix2 r c) (ix2 ⟨r.val % 8, by omega⟩ c) rfl ?_).trans ?_
  · intro b hb
    match b, hb with
    | ⟨0, _⟩, hb => exact absurd rfl hb
    | ⟨1, _⟩, _ => rfl
  · refine concatenate_replicate_apply (t := S8x512) (s₁ := S8x64) 1 8 B _ rfl _ (ix2 ⟨r.val % 8, by omega⟩ ⟨c.val % 64, by omega⟩) rfl ?_
    intro b hb
    match b, hb with
    | ⟨0, _⟩, _ => rfl
    | ⟨1, _⟩, hb => exact absurd rfl hb

/-- The row number over 8, as the body computes it. -/
theorem rowBand_apply (r : Fin 64) (c : Fin 512) : k0_pay9 (ix2 r c) = BitVec.ofNat 32 (r.val / 8) := by
  have e : k0_pay9 (ix2 r c) = quot (iota .tc S64x512 32 [0] iota_S64x512_d0_w32 (ix2 r c)) 8#32 := rfl
  rw [e, iota_single_apply]
  exact quot_eight ⟨r.val, by omega⟩

/-- The table on the diagonal: at row `r` and column `c` the tiled table where the row's band of 8 and the column's band of 64 agree, zero elsewhere. -/
theorem diagonal_apply (x0 : Vec Ideal S1x1x2048 .i32) (x1 : Vec Ideal S1x1x2048 .i32) (x2 : Vec Ideal S32x64x64 .i32) (x3 : Vec Ideal S64x100 .f32) (x4 : Vec Ideal S64x7 .f32)
    (x5 : Vec Ideal S8x64 .f32) (x6 : Vec Ideal S256x128 .f32) (x7 : Vec Ideal S256x1 .f32) (x8 : Vec Ideal S256x256 .f32) (x9 : Vec Ideal S256x1 .f32) (r : Fin 64) (c : Fin 512) :
    k0_pay18 x0 x1 x2 x3 x4 x5 x6 x7 x8 x9 (ix2 r c)
      = if r.val / 8 = c.val / 64 then x5 (ix2 ⟨r.val % 8, by omega⟩ ⟨c.val % 64, by omega⟩) else 0 := by
  have e : k0_pay18 x0 x1 x2 x3 x4 x5 x6 x7 x8 x9 (ix2 r c)
      = Scalar.select (IntOp.cmpi .eq (k0_pay9 (ix2 r c)) (quot (iota .tc S64x512 32 [1] iota_S64x512_d1_w32 (ix2 r c)) 64#32))
          (k0_pay8 (View.ld x5 r0_7) (ix2 r c)) (Ideal.ofBits .f32 0x00000000#32) := rfl
  have hl : View.ld x5 r0_7 = x5 := View.ld_unit_zero (S := S8x64) (by funext a; fin_cases a <;> rfl) _ x5
  rw [e, hl, tiled_apply, rowBand_apply, iota_single_apply, Ideal.ofBits_zero_f32]
  rw [show quot (BitVec.ofNat 32 ((ix2 r c : S64x512.Idx) 1).val) 64#32 = BitVec.ofNat 32 (c.val / 64) from quot_sixtyfour c]
  by_cases h : r.val / 8 = c.val / 64
  · rw [if_pos h, h]
    exact select_of_eq_one ((cmpi_eq_ofNat_eq_one_iff (by omega) (by omega)).mpr rfl) _ _
  · rw [if_neg h]
    exact select_of_eq_zero ((cmpi_eq_ofNat_eq_zero_iff (by omega) (by omega)).mpr h) _ _

/-- The spreading matrix: one where the row number is the column number over 8. -/
theorem spread_apply (j : Fin 64) (q : Fin 512) : k0_pay13 (F := Ideal) (ix2 j q) = if j.val = q.val / 8 then 1 else 0 := by
  have e : k0_pay13 (F := Ideal) (ix2 j q) = mark (IntOp.cmpi .eq (iota .tc S64x512 32 [0] iota_S64x512_d0_w32 (ix2 j q))
      (quot (iota .tc S64x512 32 [1] iota_S64x512_d1_w32 (ix2 j q)) 8#32)) := rfl
  rw [e, iota_single_apply, iota_single_apply]
  rw [show quot (BitVec.ofNat 32 ((ix2 j q : S64x512.Idx) 1).val) 8#32 = BitVec.ofNat 32 (q.val / 8) from quot_eight q]
  refine (mark_eq j.val (by omega) _).trans ?_
  rw [BitVec.toNat_ofNat, Nat.mod_eq_of_lt (show q.val / 8 < 2 ^ 32 by omega)]

/-- The marks: at pair row `k` and column `q`, one where the word of pair `(k, q / 8)` is `q` modulo 8, zero elsewhere. -/
theorem marks_apply (x2 : Vec Ideal S32x64x64 .i32) (a : Fin 32) (b : Fin 64) (q : Fin 512) :
    k0_pay14 (F := Ideal) k0_pay13 x2 (ix2 ⟨a.val * 64 + b.val, by omega⟩ q)
      = if x2 (ix3 a b ⟨q.val / 8, by omega⟩) = BitVec.ofNat 32 (q.val % 8) then 1 else 0 := by
  have e : k0_pay14 (F := Ideal) k0_pay13 x2 (ix2 ⟨a.val * 64 + b.val, by omega⟩ q)
      = mark (FloatOps.cmpf (F := Ideal) (φ := .f32) .oeq
          (FloatOps.matmul (F := Ideal) (DotDims.plain 2048 64 512) none (shapeCast S2048x64 (sitofp (F := Ideal) .bf16 x2) shapeCasts_S32x64x64_S2048x64) (k0_pay13 (F := Ideal))
            (constant (F := Ideal) S2048x512 .f32 0x00000000#32) (ix2 ⟨a.val * 64 + b.val, by omega⟩ q))
          ((((rest (iota .tc S2048x512 32 [1] iota_S2048x512_d1_w32 (ix2 ⟨a.val * 64 + b.val, by omega⟩ q)) 8#32).toInt : ℝ) : EReal))) := rfl
  rw [e, Ideal.matmul_plain_apply, iota_single_apply, constant_apply, Ideal.ofBits_zero_f32, zero_add]
  rw [show rest (BitVec.ofNat 32 ((ix2 (⟨a.val * 64 + b.val, by omega⟩ : Fin 2048) q : S2048x512.Idx) 1).val) 8#32 = BitVec.ofNat 32 (q.val % 8) from rest_eight q]
  rw [Finset.sum_congr rfl fun k _ => by rw [spread_apply k q], sum_mark (q.val / 8) (by omega)]
  rw [shapeCast_apply (k := ix3 a b ⟨q.val / 8, by omega⟩) (hk := by
    rw [Shape.rowMajor_val_three, Shape.rowMajor_val_two]; rfl)]
  refine (mark_ofBool ((((x2 (ix3 a b ⟨q.val / 8, by omega⟩)).toInt : ℝ) : EReal) = (((BitVec.ofNat 32 (q.val % 8)).toInt : ℝ) : EReal))).trans ?_
  refine if_congr ⟨fun h => ?_, fun h => by rw [h]⟩ rfl rfl
  exact BitVec.eq_of_toInt_eq (by exact_mod_cast h)

/-- One of the eight products: 64 columns of marks from column `off 1` on, times the diagonal table, cut back into the block's axes. -/
def product (G : FVec Ideal S64x512 .bf16) (O : FVec Ideal S2048x512 .bf16) (off : Fin 2 → Nat) (h : S2048x512.Slices off S2048x64) : FVec Ideal S32x64x512 .bf16 :=
  shapeCast S32x64x512 (truncf .bf16 (matmul dot_S2048x64_S64x512_S2048x512_1_0_0_1_n_n none (extractStridedSlice S2048x64 off O h) G
    (constant (F := Ideal) S2048x512 .f32 0x00000000#32)) bitsLt_bf16_f32) shapeCasts_S2048x512_S32x64x512

/-- A product read at an entry: the sum over its 64 columns of marks. -/
theorem product_apply (G : FVec Ideal S64x512 .bf16) (O : FVec Ideal S2048x512 .bf16) (o : Nat) (ho : o + 64 ≤ 512) (h : S2048x512.Slices ![0, o] S2048x64)
    (a : Fin 32) (b : Fin 64) (c : Fin 512) :
    product G O ![0, o] h (ix3 a b c) = ∑ r : Fin 64, O (ix2 ⟨a.val * 64 + b.val, by omega⟩ ⟨o + r.val, by omega⟩) * G (ix2 r c) := by
  unfold product
  rw [shapeCast_apply (k := ix2 ⟨a.val * 64 + b.val, by omega⟩ c) (hk := by
    rw [Shape.rowMajor_val_three, Shape.rowMajor_val_two]; rfl), truncf_apply]
  refine (Ideal.matmul_plain_apply (M := 2048) (K := 64) (N := 512) none _ _ _ _ _).trans ?_
  rw [constant_apply, Ideal.ofBits_zero_f32, zero_add]
  refine Finset.sum_congr rfl fun r _ => congrArg (· * _) ?_
  exact extractStridedSlice_apply _ O h _ _ fun d => match d with
    | ⟨0, _⟩ => (Nat.zero_add _).symm
    | ⟨1, _⟩ => rfl

/-- The sum of one product at an entry picks the marked row: the bond table's row of the pair's type. The product's columns of marks start at `64 · g`; `M` says what the marks are
    and `D` what the diagonal table is. -/
theorem picked (B : Vec Ideal S8x64 .f32) (x2 : Vec Ideal S32x64x64 .i32) (hx : ∀ i, (x2 i).toNat < 8) (G : FVec Ideal S64x512 .bf16) (O : FVec Ideal S2048x512 .bf16)
    (D : ∀ (r : Fin 64) (c : Fin 512), G (ix2 r c) = if r.val / 8 = c.val / 64 then B (ix2 ⟨r.val % 8, by omega⟩ ⟨c.val % 64, by omega⟩) else 0)
    (M : ∀ (a : Fin 32) (b : Fin 64) (q : Fin 512), O (ix2 ⟨a.val * 64 + b.val, by omega⟩ q)
      = if x2 (ix3 a b ⟨q.val / 8, by omega⟩) = BitVec.ofNat 32 (q.val % 8) then 1 else 0)
    (g : Fin 8) (o : Nat) (ho : o = 64 * g.val) (h : S2048x512.Slices ![0, o] S2048x64) (a : Fin 32) (b : Fin 64) (c : Fin 512) :
    product G O ![0, o] h (ix3 a b c) = edge B (x2 (ix3 a b ⟨8 * g.val + c.val / 64, by omega⟩)) ⟨c.val % 64, by omega⟩ := by
  rw [product_apply G O o (by omega) h a b c]
  obtain ⟨j, hjv⟩ : ∃ j : Fin 64, j.val = 8 * g.val + c.val / 64 := ⟨⟨_, by omega⟩, rfl⟩
  rw [show (⟨8 * g.val + c.val / 64, by omega⟩ : Fin 64) = j from Fin.ext hjv.symm]
  have hlt := hx (ix3 a b j)
  have pair : ∀ r : Fin 64, r.val / 8 = c.val / 64 → (⟨(o + r.val) / 8, by omega⟩ : Fin 64) = j := fun r hr => Fin.ext (by show (o + r.val) / 8 = j.val; omega)
  obtain ⟨k, hk⟩ : ∃ k : Fin 64, k.val = 8 * (c.val / 64) + (x2 (ix3 a b j)).toNat := ⟨⟨_, by omega⟩, rfl⟩
  rw [Finset.sum_eq_single k]
  · have hm : x2 (ix3 a b ⟨(o + k.val) / 8, by omega⟩) = BitVec.ofNat 32 ((o + k.val) % 8) := by
      rw [pair k (by omega), show (o + k.val) % 8 = (x2 (ix3 a b j)).toNat by omega, BitVec.ofNat_toNat, BitVec.setWidth_eq]
    rw [M, if_pos hm, D, if_pos (by omega), one_mul]
    unfold edge
    refine congrArg B (congrArg (fun t => ix2 t _) (Fin.ext ?_))
    rw [row_val hlt]
    show k.val % 8 = _
    omega
  · intro r _ hne
    rw [M, D]
    by_cases hb : r.val / 8 = c.val / 64
    · rw [if_neg, zero_mul]
      intro hw
      have hw' : x2 (ix3 a b j) = BitVec.ofNat 32 ((o + r.val) % 8) := by rw [← pair r hb]; exact hw
      have hv : (x2 (ix3 a b j)).toNat = (o + r.val) % 8 := by rw [hw', BitVec.toNat_ofNat, Nat.mod_eq_of_lt (show (o + r.val) % 8 < 2 ^ 32 by omega)]
      exact hne (Fin.ext (by omega))
    · rw [if_neg hb, mul_zero]
  · exact fun hn => absurd (Finset.mem_univ _) hn

/-- The block of the second result as one function of its position: at row `a`, atom `b` and lane `w` the bond table's row of the pair `(a, b, w / 64)` at `w` modulo 64. -/
def block (B : Vec Ideal S8x64 .f32) (x2 : Vec Ideal S32x64x64 .i32) (y : S32x64x4096.Idx) : EReal :=
  edge B (x2 (ix3 (y 0) (y 1) ⟨(y 2).val / 64, by have : (y 2).val < 4096 := (y 2).isLt; omega⟩)) ⟨(y 2).val % 64, by omega⟩

/-- A product stored at lane `512 · g` agrees with `block` at every entry it is stored to. -/
theorem stored (B : Vec Ideal S8x64 .f32) (x2 : Vec Ideal S32x64x64 .i32) (hx : ∀ i, (x2 i).toNat < 8) (G : FVec Ideal S64x512 .bf16) (O : FVec Ideal S2048x512 .bf16)
    (D : ∀ (r : Fin 64) (c : Fin 512), G (ix2 r c) = if r.val / 8 = c.val / 64 then B (ix2 ⟨r.val % 8, by omega⟩ ⟨c.val % 64, by omega⟩) else 0)
    (M : ∀ (a : Fin 32) (b : Fin 64) (q : Fin 512), O (ix2 ⟨a.val * 64 + b.val, by omega⟩ q)
      = if x2 (ix3 a b ⟨q.val / 8, by omega⟩) = BitVec.ofNat 32 (q.val % 8) then 1 else 0)
    (g : Fin 8) (o l : Nat) (ho : o = 64 * g.val) (hl : l = 512 * g.val) (h : S2048x512.Slices ![0, o] S2048x64)
    (inb : ∀ d, (![0, 0, l] : Fin 3 → Nat) d + S32x64x512.size d ≤ S32x64x4096.size d) (x : S32x64x512.Idx) :
    product G O ![0, o] h x = block B x2 ((Rect.unit (s := S32x64x4096) ![0, 0, l] S32x64x512.size inb).emb x) := by
  obtain ⟨a, b, c, rfl⟩ : ∃ (a : Fin 32) (b : Fin 64) (c : Fin 512), x = ix3 a b c := ⟨_, _, _, eq_ix3 x⟩
  rw [picked B x2 hx G O D M g o ho h a b c]
  unfold block
  have e0 : ((Rect.unit (s := S32x64x4096) ![0, 0, l] S32x64x512.size inb).emb (ix3 a b c)) 0 = a := Fin.ext (by show 0 + 1 * a.val = a.val; omega)
  have e1 : ((Rect.unit (s := S32x64x4096) ![0, 0, l] S32x64x512.size inb).emb (ix3 a b c)) 1 = b := Fin.ext (by show 0 + 1 * b.val = b.val; omega)
  have e2 : (((Rect.unit (s := S32x64x4096) ![0, 0, l] S32x64x512.size inb).emb (ix3 a b c)) 2).val = l + c.val := by show l + 1 * c.val = _; omega
  have ej : ∀ h₁ h₂, (⟨8 * g.val + c.val / 64, h₁⟩ : Fin 64) = ⟨(((Rect.unit (s := S32x64x4096) ![0, 0, l] S32x64x512.size inb).emb (ix3 a b c)) 2).val / 64, h₂⟩ :=
    fun _ _ => Fin.ext (by show 8 * g.val + c.val / 64 = _ / 64; rw [e2]; omega)
  have ed : ∀ h₁ h₂, (⟨c.val % 64, h₁⟩ : Fin 64) = ⟨(((Rect.unit (s := S32x64x4096) ![0, 0, l] S32x64x512.size inb).emb (ix3 a b c)) 2).val % 64, h₂⟩ :=
    fun _ _ => Fin.ext (by show c.val % 64 = _ % 64; rw [e2]; omega)
  rw [e0, e1, ej, ed]

/-- WHAT A GRID POINT LEAVES IN ITS BLOCK OF THE SECOND RESULT, when every word of its pairs is a bond type: `block` of the bond table and those words. -/
theorem out_eq (x0 : Vec Ideal S1x1x2048 .i32) (x1 : Vec Ideal S1x1x2048 .i32) (x2 : Vec Ideal S32x64x64 .i32) (x3 : Vec Ideal S64x100 .f32) (x4 : Vec Ideal S64x7 .f32)
    (x5 : Vec Ideal S8x64 .f32) (x6 : Vec Ideal S256x128 .f32) (x7 : Vec Ideal S256x1 .f32) (x8 : Vec Ideal S256x256 .f32) (x9 : Vec Ideal S256x1 .f32)
    (hx : ∀ i, (x2 i).toNat < 8) (y : S32x64x4096.Idx) : out0_11 x0 x1 x2 x3 x4 x5 x6 x7 x8 x9 y = block x5 x2 y := by
  have hl : View.ld x2 r0_8 = x2 := View.ld_unit_zero (S := S32x64x64) (by funext a; fin_cases a <;> rfl) _ x2
  have D := diagonal_apply x0 x1 x2 x3 x4 x5 x6 x7 x8 x9
  have M : ∀ (a : Fin 32) (b : Fin 64) (q : Fin 512), k0_pay14 (F := Ideal) k0_pay13 (View.ld x2 r0_8) (ix2 ⟨a.val * 64 + b.val, by omega⟩ q)
      = if x2 (ix3 a b ⟨q.val / 8, by omega⟩) = BitVec.ofNat 32 (q.val % 8) then 1 else 0 := by rw [hl]; exact marks_apply x2
  have P := stored x5 x2 hx _ _ D M
  unfold out0_11
  refine View.canon_apply_of_pieces (Val := Elt Ideal) (e := .bf16) (block x5 x2) _ ?_ y (cover0_11 _ _ _ _ _ _ _ _ y)
  intro pc hpc
  simp only [List.mem_cons, List.mem_nil_iff, or_false] at hpc
  rcases hpc with rfl | rfl | rfl | rfl | rfl | rfl | rfl | rfl
  · exact P 7 448 3584 rfl rfl _ (by decide)
  · exact P 6 384 3072 rfl rfl _ (by decide)
  · exact P 5 320 2560 rfl rfl _ (by decide)
  · exact P 4 256 2048 rfl rfl _ (by decide)
  · exact P 3 192 1536 rfl rfl _ (by decide)
  · exact P 2 128 1024 rfl rfl _ (by decide)
  · exact P 1 64 512 rfl rfl _ (by decide)
  · exact P 0 0 0 rfl rfl _ (by decide)

end Cert.EdgeBlock

end
-- ==== Proof.Arrays.lean ====
/- What the launch's two result arrays hold at the end, at words inside the tables: the first is `node` of every atom's two words, the second `edge` of every pair's word, eight flat
   stretches of 64 features for every pair of atoms. -/
module

public import proofs.«01_k».proof.Proof.Blocks
public import proofs.«01_k».proof.Proof.NodeBlock
public import proofs.«01_k».proof.Proof.EdgeBlock

@[expose] public section

noncomputable section

namespace Cert.Arrays

open Idealize.ShloMosaic Idealize.ShloMosaic.ValueIdx Idealize.ShloMosaic.Pipeline Idealize.SL.Sem Cert.KernelIdeal Cert.KernelIdeal.Gen Cert.Spec Cert.Blocks

variable (m : (ℓ : Loc nD τ sig) → Buf (Elt Ideal) ℓ) (c : Dev nD)

/-- The first result, wanted at every entry. -/
def nodes : FVec Ideal S256x64x256 .f32 := fun i =>
  node (m ((c.tc : Thread nD τ).loc main_arg4)) (m ((c.tc : Thread nD τ).loc main_arg5)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg0) (ix2 (i 0) (i 1)))
    (m ((c.tc : Thread nD τ).loc main_arg3) (ix2 (i 0) (i 1))) (i 2)

/-- The second result before it is unfolded: entry `64 j + e` of a row is feature `e` of the row's pair `j`. -/
def flatEdges : FVec Ideal S256x64x4096 .bf16 := fun i =>
  edge (m ((c.tc : Thread nD τ).loc main_arg6)) (m ((c.tc : Thread nD τ).loc main_arg1) (ix3 (i 0) (i 1) ⟨(i 2).val / 64, by have h : (i 2).val < 4096 := (i 2).isLt; omega⟩))
    ⟨(i 2).val % 64, Nat.mod_lt _ (by norm_num)⟩

/-- The first result array holds `nodes`. -/
theorem nodes_eq (h0 : ∀ i, (m ((c.tc : Thread nD τ).loc main_arg0) i).toNat < 100) (h3 : ∀ i, (m ((c.tc : Thread nD τ).loc main_arg3) i).toNat < 7) :
    (dats m 0 c).arrAt 10 cfg0.N = nodes m c := by
  refine (dats m 0 c).arrAt_eq_of_covers 10 _ (by decide +kernel) fun t _ y => ?_
  obtain ⟨a, b, d, rfl⟩ : ∃ (a : Fin 32) (b : Fin 64) (d : Fin 256), y = ix3 a b d := ⟨y 0, y 1, y 2, eq_ix3 y⟩
  have e : (win0_10.blk t).view.emb (ix3 a b d) = (ix3 (molecule t a) b d : S256x64x256.Idx) := by blk_ext [by_point]
  refine Eq.trans ?_ (congrArg (nodes m c) e).symm
  have hp : a.val * 64 + b.val < 2048 := by omega
  refine (congrFun (after0_10 m c t) (ix3 a b d)).trans ?_
  refine (NodeBlock.out_eq _ _ _ _ _ _ _ _ _ _ a b d ⟨_, hp⟩ rfl ?_ ?_).trans ?_
  · rw [atoms m c t a b ⟨_, hp⟩ rfl]; exact h0 _
  · rw [charges m c t a b ⟨_, hp⟩ rfl]; exact h3 _
  · rw [atoms m c t a b ⟨_, hp⟩ rfl, charges m c t a b ⟨_, hp⟩ rfl, atom_table, charge_table, weights₁, weights₂, bias₁, bias₂]
    rfl

/-- The second result array holds `flatEdges`. -/
theorem edges_eq (h1 : ∀ i, (m ((c.tc : Thread nD τ).loc main_arg1) i).toNat < 8) : (dats m 0 c).arrAt 11 cfg0.N = flatEdges m c := by
  refine (dats m 0 c).arrAt_eq_of_covers 11 _ (by decide +kernel) fun t _ y => ?_
  obtain ⟨a, b, d, rfl⟩ : ∃ (a : Fin 32) (b : Fin 64) (d : Fin 4096), y = ix3 a b d := ⟨y 0, y 1, y 2, eq_ix3 y⟩
  have e : (win0_11.blk t).view.emb (ix3 a b d) = (ix3 (molecule t a) b d : S256x64x4096.Idx) := by blk_ext [by_point]
  refine Eq.trans ?_ (congrArg (flatEdges m c) e).symm
  refine (congrFun (after0_11 m c t) (ix3 a b d)).trans ?_
  refine (EdgeBlock.out_eq _ _ _ _ _ _ _ _ _ _ (fun i => ?_) _).trans ?_
  · obtain ⟨p, q, r, rfl⟩ : ∃ (p : Fin 32) (q r : Fin 64), i = ix3 p q r := ⟨i 0, i 1, i 2, eq_ix3 i⟩
    rw [pairs]
    exact h1 _
  · unfold EdgeBlock.block flatEdges
    rw [pair_table]
    exact congrArg (fun w => edge _ w _) (pairs m c t a b _)

end Cert.Arrays

end
-- ==== Proof.Results.lean ====
/- The two values the kernel returns, at words inside the tables: the launch's first array itself, and its second one unfolded on the host into one row of 64 features for every pair. -/
module

public import proofs.«01_k».proof.Proof.Arrays

@[expose] public section

noncomputable section

namespace Cert.Results

open Idealize.ShloMosaic Idealize.ShloMosaic.ValueIdx Idealize.ShloMosaic.Pipeline Idealize.SL.Sem Cert.KernelIdeal Cert.KernelIdeal.Gen Cert.Spec Cert.Arrays

variable (m : (ℓ : Loc nD τ sig) → Buf (Elt Ideal) ℓ)

/-- The second result, wanted at every entry. -/
def edges (c : Dev nD) : FVec Ideal S256x64x64x64 .f32 := fun i => edge (m ((c.tc : Thread nD τ).loc main_arg6)) (m ((c.tc : Thread nD τ).loc main_arg1) (ix3 (i 0) (i 1) (i 2))) (i 3)

/-- Unfolding the flat stretches gives the wanted second result. -/
theorem unfolded (c : Dev nD) : (extf .f32 (shapeCast S256x64x64x64 (flatEdges m c) shapeCasts_S256x64x4096_S256x64x64x64) bitsLt_bf16_f32 : FVec Ideal S256x64x64x64 .f32) = edges m c := by
  funext i
  obtain ⟨a, b, j, e, rfl⟩ : ∃ (a : Fin 256) (b j e : Fin 64), i = ix4 a b j e := ⟨i 0, i 1, i 2, i 3, eq_ix4 i⟩
  have hq : (j.val * 64 + e.val) / 64 = j.val := by omega
  have hr : (j.val * 64 + e.val) % 64 = e.val := by omega
  have hs : shapeCast S256x64x64x64 (flatEdges m c) shapeCasts_S256x64x4096_S256x64x64x64 (ix4 a b j e) = flatEdges m c (ix3 a b (⟨j.val * 64 + e.val, by omega⟩ : Fin 4096)) :=
    shapeCast_apply (hk := by
      rw [Shape.rowMajor_val_three, Shape.rowMajor_val_four]
      show (a.val * 64 + b.val) * 4096 + (j.val * 64 + e.val) = ((a.val * 64 + b.val) * 64 + j.val) * 64 + e.val
      omega) ..
  refine hs.trans ?_
  unfold flatEdges edges
  exact congrArg₂ (fun q r => edge _ (m ((c.tc : Thread nD τ).loc main_arg1) (ix3 a b q)) r) (Fin.ext hq) (Fin.ext hr)

/-- What the lines after the launch leave in the second result. -/
theorem tail (c : Dev nD) (h1 : ∀ i, (m ((c.tc : Thread nD τ).loc main_arg1) i).toNat < 8) :
    Pipeline.afterTail₀ cfgs (dats m) 0 (V0 m) [hostOps1] c main_v0_1 = edges m c := by
  have hw : Pipeline.withArrays (cfgs 0).spec c (V0 m c) (fun w => (dats m 0 c).arrAt w (cfgs 0).N) (Proc.devRef .tc main_call0_v8_1) = flatEdges m c :=
    (Pipeline.withArrays_arr (cfgs 0).spec (by decide) c (V0 m c) (fun w => (dats m 0 c).arrAt w (cfgs 0).N) 11).trans (edges_eq m c h1)
  unfold Pipeline.afterTail₀
  generalize Pipeline.withArrays (cfgs 0).spec c (V0 m c) (fun w => (dats m 0 c).arrAt w (cfgs 0).N) = W at hw ⊢
  simp only [hostOps1, List.flatten_cons, List.flatten_nil, List.append_nil, StableHlo.TRef.unary, StableHlo.TRef.reshape, StableHlo.TRef.toBuf, StableHlo.TRef.ofBuf, cast_eq]
  refine Eq.trans ?_ (unfolded m c)
  rw [← hw]
  after_results_simp <;> rfl

/-- THE KERNEL'S RUN: it ends with the first result at `nodes`, the second at `edges` and every argument unchanged. -/
theorem run (ρ : Dev nD → PrngReg) (h0 : ∀ c i, (m (((c : Dev nD).tc : Thread nD τ).loc main_arg0) i).toNat < 100)
    (h1 : ∀ c i, (m (((c : Dev nD).tc : Thread nD τ).loc main_arg1) i).toNat < 8) (h3 : ∀ c i, (m (((c : Dev nD).tc : Thread nD τ).loc main_arg3) i).toNat < 7) :
    θ_run defs (onTc (τ := τ) (main (F := Ideal))) ⟨m, fun _ => 0, ρ⟩ fun r => ∀ c : Dev nD,
      r.2.mem ((c.tc : Thread nD τ).loc main_v0_0) = nodes m c
      ∧ r.2.mem ((c.tc : Thread nD τ).loc main_v0_1) = edges m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h.1 c).1 10).trans (nodes_eq m c (h0 c) (h3 c)),
    ((h.1 c).2 main_v0_1 (Pipeline.mem_restRefs_of _ (by decide) (by decide))).trans (tail m c (h1 c)), h.2 c⟩) (θ_run_and (run_main m ρ) (unchanged m ρ))

end Cert.Results

end
-- ==== Proof.Take.lean ====
/- The table look-up the reference writes, at words inside the table: the word is kept as it is, the check "inside the table" holds at every index, and the gather reads the row the
   word names. Stated once for any table height, and for arrays of words of two and of three axes. -/
module

public import proofs.«01_k».proof.Proof.Spec
public import Idealize.ShloMosaic.Lib.WordCmp
public import Idealize.ShloMosaic.Lib.ReduceAll

@[expose] public section

noncomputable section

namespace Cert.Take

open Idealize.ShloMosaic Idealize.ShloMosaic.ValueIdx Idealize.ShloMosaic.WordCmp Cert.Spec

/-- A word below the sign bit is not wrapped: "negative" fails, so the word itself is kept. -/
theorem kept (x c : BitVec 32) (hx : x.toNat < 2 ^ 31) : Scalar.select (IntOp.cmpi .slt x 0#32) (IntOp.addi x c) x = x := by
  refine select_of_eq_zero ?_ _ _
  rw [cmpi_slt_zero, decide_eq_false (by show ¬ 2 ^ 31 ≤ x.toNat; omega)]
  rfl

/-- A word up to `c` passes the check "at least zero and at most `c`". -/
theorem inside (x : BitVec 32) (c : Nat) (hc : c < 2 ^ 31) (hx : x.toNat ≤ c) :
    IntOp.andi (IntOp.cmpi .sge x 0#32) (IntOp.cmpi .sle x (BitVec.ofNat 32 c)) = 1#1 := by
  rw [cmpi_sge_zero, decide_eq_true (by show x.toNat < 2 ^ 31; omega), cmpi_sle_eq, toInt_eq_toNat_of_lt_half (by show x.toNat < 2 ^ 31; omega),
    toInt_ofNat_of_lt (by show c < 2 ^ 31; exact hc), decide_eq_true (by omega)]
  rfl

/-- The row read by a start word below the table's height: clamping changes nothing. -/
theorem clamped {n : Nat} [NeZero n] (hn : n ≤ 2 ^ 31) (x : BitVec 32) (hx : x.toNat < n) : min x.toInt.toNat (n - 1) = (row n x).val := by
  rw [row_val hx, toInt_eq_toNat_of_lt_half (by show x.toNat < 2 ^ 31; omega)]
  omega

/-- Taking whole rows of a table by words on two axes. -/
abbrev rows2 (n A B : Nat) (wf : GatherDims.WF ⟨2, ![n, 64]⟩ ⟨3, ![A, B, 1]⟩ ⟨3, ![A, B, 64]⟩ [2] [0] [] [0] [] 2 ![1, 64]) :
    GatherDims ⟨2, ![n, 64]⟩ ⟨3, ![A, B, 1]⟩ ⟨3, ![A, B, 64]⟩ where
  offsetDims := [2]
  collapsedSliceDims := [0]
  operandBatchingDims := []
  startIndicesBatchingDims := []
  startIndexMap := [0]
  indexVectorDim := 2
  sliceSizes := ![1, 64]
  wf := wf

/-- Taking whole rows of a table by words on three axes. -/
abbrev rows3 (n A B C : Nat) (wf : GatherDims.WF ⟨2, ![n, 64]⟩ ⟨4, ![A, B, C, 1]⟩ ⟨4, ![A, B, C, 64]⟩ [3] [0] [] [0] [] 3 ![1, 64]) :
    GatherDims ⟨2, ![n, 64]⟩ ⟨4, ![A, B, C, 1]⟩ ⟨4, ![A, B, C, 64]⟩ where
  offsetDims := [3]
  collapsedSliceDims := [0]
  operandBatchingDims := []
  startIndicesBatchingDims := []
  startIndexMap := [0]
  indexVectorDim := 3
  sliceSizes := ![1, 64]
  wf := wf

/-- Rows taken by words on two axes, read at an entry whose word is below the table's height. -/
theorem rows2_apply {α : Type} {n A B : Nat} [NeZero n] (hn : n ≤ 2 ^ 31) (wf) (T : (⟨2, ![n, 64]⟩ : Shape).Idx → α) (w : IVec ⟨3, ![A, B, 1]⟩ 32)
    (a : Fin A) (b : Fin B) (e : Fin 64) (hx : (w (ix3 a b 0)).toNat < n) :
    Host.gather (rows2 n A B wf) T w (ix3 a b e) = T (ix2 (row n (w (ix3 a b 0))) e) := by
  unfold Host.gather
  refine congrArg T (funext fun d => Fin.ext ?_)
  show (rows2 n A B wf).start (ix3 a b e) w d + (rows2 n A B wf).batchCoord (ix3 a b e) d + (rows2 n A B wf).offCoord (ix3 a b e) d = _
  rw [GatherDims.batchCoord_eq_zero _ _ _ (by simp), Nat.add_zero]
  obtain rfl | rfl : d = (0 : Fin 2) ∨ d = (1 : Fin 2) := by
    match d with
    | ⟨0, _⟩ => exact Or.inl rfl
    | ⟨1, _⟩ => exact Or.inr rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rows2 n A B wf).startIndexMap from List.mem_singleton.mpr rfl)]
    have hi : (rows2 n A B wf).siIdx (ix3 a b e) ⟨List.idxOf (0 : Fin 2) (rows2 n A B wf).startIndexMap, List.idxOf_lt_length_iff.2 (List.mem_singleton.mpr rfl)⟩
        = ix3 a b 0 := funext fun c => Fin.ext (match c with
      | ⟨0, _⟩ => rfl
      | ⟨1, _⟩ => rfl
      | ⟨2, _⟩ => rfl)
    exact (congrArg (fun i => min (w i).toInt.toNat (n - 1)) hi).trans (clamped hn _ hx)
  · unfold GatherDims.start
    rw [dif_neg (show (1 : Fin 2) ∉ (rows2 n A B wf).startIndexMap by simp), Nat.zero_add]
    rfl

/-- Rows taken by words on three axes, read at an entry whose word is below the table's height. -/
theorem rows3_apply {α : Type} {n A B C : Nat} [NeZero n] (hn : n ≤ 2 ^ 31) (wf) (T : (⟨2, ![n, 64]⟩ : Shape).Idx → α) (w : IVec ⟨4, ![A, B, C, 1]⟩ 32)
    (a : Fin A) (b : Fin B) (c : Fin C) (e : Fin 64) (hx : (w (ix4 a b c 0)).toNat < n) :
    Host.gather (rows3 n A B C wf) T w (ix4 a b c e) = T (ix2 (row n (w (ix4 a b c 0))) e) := by
  unfold Host.gather
  refine congrArg T (funext fun d => Fin.ext ?_)
  show (rows3 n A B C wf).start (ix4 a b c e) w d + (rows3 n A B C wf).batchCoord (ix4 a b c e) d + (rows3 n A B C wf).offCoord (ix4 a b c e) d = _
  rw [GatherDims.batchCoord_eq_zero _ _ _ (by simp), Nat.add_zero]
  obtain rfl | rfl : d = (0 : Fin 2) ∨ d = (1 : Fin 2) := by
    match d with
    | ⟨0, _⟩ => exact Or.inl rfl
    | ⟨1, _⟩ => exact Or.inr rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rows3 n A B C wf).startIndexMap from List.mem_singleton.mpr rfl)]
    have hi : (rows3 n A B C wf).siIdx (ix4 a b c e) ⟨List.idxOf (0 : Fin 2) (rows3 n A B C wf).startIndexMap, List.idxOf_lt_length_iff.2 (List.mem_singleton.mpr rfl)⟩
        = ix4 a b c 0 := funext fun f => Fin.ext (match f with
      | ⟨0, _⟩ => rfl
      | ⟨1, _⟩ => rfl
      | ⟨2, _⟩ => rfl
      | ⟨3, _⟩ => rfl)
    exact (congrArg (fun i => min (w i).toInt.toNat (n - 1)) hi).trans (clamped hn _ hx)
  · unfold GatherDims.start
    rw [dif_neg (show (1 : Fin 2) ∉ (rows3 n A B C wf).startIndexMap by simp), Nat.zero_add]
    rfl

end Cert.Take

end
-- ==== Proof.Reference.lean ====
/- What the reference computes, at words inside the tables: the three look-ups are the tables' rows, the first result is `node` of an atom's two words and the second is `edge` of a
   pair's word, at every entry. -/
module

public import proofs.«01_k».proof.Proof.Take
public import proofs.«01_k».proof.Proof.Gen.ReferenceIdeal.Read
public import Idealize.ShloMosaic.Lib.IdealHost

@[expose] public section

noncomputable section

namespace Cert.Reference

open Idealize.ShloMosaic Idealize.ShloMosaic.ValueIdx Idealize.ShloMosaic.WordCmp Cert.ReferenceIdeal Cert.ReferenceIdeal.Gen Cert.ReferenceIdeal.Read Cert.Spec Cert.Take

/-- The atom table's look-up at an entry: the row of the atom's word. -/
theorem atoms_apply (x0 : IVec S256x64 32) (x4 : FVec Ideal S100x64 .f32) (h0 : ∀ i, (x0 i).toNat < 100) (a : Fin 256) (b : Fin 64) (e : Fin 64) :
    val_main_v0 (F := Ideal) x0 x4 (ix3 a b e) = x4 (ix2 (row 100 (x0 (ix2 a b))) e) := by
  have hw : ∀ i, val_main_call0_v5 (F := Ideal) x0 i = x0 (idx_main_call0_v5 i) := fun i => (val_main_call0_v5_apply x0 i).trans (kept _ _ (by have := h0 (idx_main_call0_v5 i); omega))
  have hm : ∀ i, val_main_call0_v11 (F := Ideal) x0 i = 1#1 := fun i => by
    rw [val_main_call0_v11_apply, val_main_call0_v7_apply, val_main_call0_v10_apply, hw]
    exact inside _ 99 (by norm_num) (by have := h0 (idx_main_call0_v5 i); omega)
  have hc : val_main_call0_v14 (F := Ideal) x0 (ix3 a b e) = 1#1 := (val_main_call0_v14_apply x0 _).trans (Host.reduce_andi_one _ _ _ _ _ rfl hm)
  rw [val_main_v0_apply]
  refine (select_of_eq_one hc _ _).trans ?_
  refine (rows2_apply (n := 100) (by norm_num) _ x4 (val_main_call0_v5 (F := Ideal) x0) a b e (by rw [hw]; exact h0 _)).trans ?_
  rw [hw]
  exact congrArg (fun i => x4 (ix2 (row 100 (x0 i)) e)) (eq_ix2 _)

/-- The charge table's look-up at an entry: the row of the atom's charge word. -/
theorem charges_apply (x3 : IVec S256x64 32) (x5 : FVec Ideal S7x64 .f32) (h3 : ∀ i, (x3 i).toNat < 7) (a : Fin 256) (b : Fin 64) (e : Fin 64) :
    val_main_v1 (F := Ideal) x3 x5 (ix3 a b e) = x5 (ix2 (row 7 (x3 (ix2 a b))) e) := by
  have hw : ∀ i, val_main_call1_v5 (F := Ideal) x3 i = x3 (idx_main_call1_v5 i) := fun i => (val_main_call1_v5_apply x3 i).trans (kept _ _ (by have := h3 (idx_main_call1_v5 i); omega))
  have hm : ∀ i, val_main_call1_v11 (F := Ideal) x3 i = 1#1 := fun i => by
    rw [val_main_call1_v11_apply, val_main_call1_v7_apply, val_main_call1_v10_apply, hw]
    exact inside _ 6 (by norm_num) (by have := h3 (idx_main_call1_v5 i); omega)
  have hc : val_main_call1_v14 (F := Ideal) x3 (ix3 a b e) = 1#1 := (val_main_call1_v14_apply x3 _).trans (Host.reduce_andi_one _ _ _ _ _ rfl hm)
  rw [val_main_v1_apply]
  refine (select_of_eq_one hc _ _).trans ?_
  refine (rows2_apply (n := 7) (by norm_num) _ x5 (val_main_call1_v5 (F := Ideal) x3) a b e (by rw [hw]; exact h3 _)).trans ?_
  rw [hw]
  exact congrArg (fun i => x5 (ix2 (row 7 (x3 i)) e)) (eq_ix2 _)

/-- THE SECOND RESULT at an entry: `edge` of the pair's word. -/
theorem edge_apply (x1 : IVec S256x64x64 32) (x6 : FVec Ideal S8x64 .f32) (h1 : ∀ i, (x1 i).toNat < 8) (a : Fin 256) (b c : Fin 64) (e : Fin 64) :
    val_main_v18 (F := Ideal) x1 x6 (ix4 a b c e) = edge x6 (x1 (ix3 a b c)) e := by
  have hw : ∀ i, val_main_call2_v5 (F := Ideal) x1 i = x1 (idx_main_call2_v5 i) := fun i => (val_main_call2_v5_apply x1 i).trans (kept _ _ (by have := h1 (idx_main_call2_v5 i); omega))
  have hm : ∀ i, val_main_call2_v11 (F := Ideal) x1 i = 1#1 := fun i => by
    rw [val_main_call2_v11_apply, val_main_call2_v7_apply, val_main_call2_v10_apply, hw]
    exact inside _ 7 (by norm_num) (by have := h1 (idx_main_call2_v5 i); omega)
  have hc : val_main_call2_v14 (F := Ideal) x1 (ix4 a b c e) = 1#1 := (val_main_call2_v14_apply x1 _).trans (Host.reduce_andi_one _ _ _ _ _ rfl hm)
  rw [val_main_v18_apply]
  refine (select_of_eq_one hc _ _).trans ?_
  refine (rows3_apply (n := 8) (by norm_num) _ x6 (val_main_call2_v5 (F := Ideal) x1) a b c e (by rw [hw]; exact h1 _)).trans ?_
  rw [hw]
  exact congrArg (fun i => x6 (ix2 (row 8 (x1 i)) e)) (eq_ix3 _)

variable (x0 x3 : IVec S256x64 32) (x4 : FVec Ideal S100x64 .f32) (x5 : FVec Ideal S7x64 .f32) (x7 : FVec Ideal S128x256 .f32) (x8 : FVec Ideal S256 .f32)
  (x9 : FVec Ideal S256x256 .f32) (x10 : FVec Ideal S256 .f32)

/-- The joined rows at an entry: the atom's feature. -/
theorem feature_apply (h0 : ∀ i, (x0 i).toNat < 100) (h3 : ∀ i, (x3 i).toNat < 7) (a : Fin 256) (b : Fin 64) (k : Fin 128) :
    val_main_v2 (F := Ideal) x0 x3 x4 x5 (ix3 a b k) = feature x4 x5 (x0 (ix2 a b)) (x3 (ix2 a b)) k := by
  unfold val_main_v2 feature
  by_cases h : k.val < 64
  · rw [dif_pos h]
    refine (concatenate_pair_apply_left (t := S256x64x128) (s₁ := S256x64x64) (s₂ := S256x64x64) 2 _ _ _ _ rfl (ix3 a b ⟨k.val, h⟩) fun d => match d with
      | ⟨0, _⟩ => rfl
      | ⟨1, _⟩ => rfl
      | ⟨2, _⟩ => rfl).trans ?_
    exact atoms_apply x0 x4 h0 a b _
  · rw [dif_neg h]
    refine (concatenate_pair_apply_right (t := S256x64x128) (s₁ := S256x64x64) (s₂ := S256x64x64) 2 _ _ _ _ rfl rfl (ix3 a b ⟨k.val - 64, by omega⟩) (fun d hd => match d, hd with
      | ⟨0, _⟩, _ => rfl
      | ⟨1, _⟩, _ => rfl
      | ⟨2, _⟩, hd => absurd rfl hd) (by show k.val - 64 + 64 = k.val; omega)).trans ?_
    exact charges_apply x3 x5 h3 a b _

/-- The first layer at an entry. -/
theorem hidden_apply (h0 : ∀ i, (x0 i).toNat < 100) (h3 : ∀ i, (x3 i).toNat < 7) (a : Fin 256) (b : Fin 64) (j : Fin 256) :
    val_main_v6 (F := Ideal) x0 x3 x4 x5 x7 x8 (ix3 a b j) = Spec.hidden x4 x5 x7 x8 (x0 (ix2 a b)) (x3 (ix2 a b)) j := by
  have hl : ∀ k, lidx_main_v3 (ix3 a b j) k = ix3 a b k := fun k => eq_ix3 _
  have hr : ∀ k, ridx_main_v3 (ix3 a b j) k = ix2 k j := fun k => eq_ix2 _
  have hb : val_main_v5 (F := Ideal) x8 (ix3 a b j) = x8 (ix1 j) := by
    rw [val_main_v5_apply, val_main_v4_apply]
    exact congrArg x8 (eq_ix1 _)
  rw [val_main_v6_apply, hb, val_main_v3_apply]
  unfold Spec.hidden
  refine congrArg₂ (fun u v : EReal => u + v) (Finset.sum_congr rfl fun k _ => ?_) rfl
  rw [hl, hr, feature_apply x0 x3 x4 x5 h0 h3]

/-- The activated first layer at an entry: the reference writes the logistic function out as a quotient. -/
theorem silu_apply (i : S256x64x256.Idx) : val_main_v13 (F := Ideal) x0 x3 x4 x5 x7 x8 i = silu (val_main_v6 (F := Ideal) x0 x3 x4 x5 x7 x8 i) := by
  rw [val_main_v13_apply, val_main_v12_apply, val_main_v11_apply, val_main_v10_apply, val_main_v9_apply, val_main_v8_apply, val_main_v7_apply, val_main_cst_apply, val_main_cst_0_apply]
  generalize val_main_v6 (F := Ideal) x0 x3 x4 x5 x7 x8 i = y
  have h1 : (FloatOps.ofBits (F := Ideal) .f32 0x3F800000#32) = (1 : EReal) := Ideal.ofBits_one_f32
  rw [h1]
  rfl

/-- THE FIRST RESULT at an entry: `node` of the atom's two words. -/
theorem node_apply (h0 : ∀ i, (x0 i).toNat < 100) (h3 : ∀ i, (x3 i).toNat < 7) (a : Fin 256) (b : Fin 64) (d : Fin 256) :
    val_main_v17 (F := Ideal) x0 x3 x4 x5 x7 x8 x9 x10 (ix3 a b d) = node x4 x5 x7 x8 x9 x10 (x0 (ix2 a b)) (x3 (ix2 a b)) d := by
  have hl : ∀ k, lidx_main_v14 (ix3 a b d) k = ix3 a b k := fun k => eq_ix3 _
  have hr : ∀ k, ridx_main_v14 (ix3 a b d) k = ix2 k d := fun k => eq_ix2 _
  have hb : val_main_v16 (F := Ideal) x10 (ix3 a b d) = x10 (ix1 d) := by
    rw [val_main_v16_apply, val_main_v15_apply]
    exact congrArg x10 (eq_ix1 _)
  rw [val_main_v17_apply, hb, val_main_v14_apply]
  unfold node
  refine congrArg₂ (fun u v : EReal => u + v) (Finset.sum_congr rfl fun k _ => ?_) rfl
  rw [hl, hr, silu_apply, hidden_apply x0 x3 x4 x5 x7 x8 h0 h3]

end Cert.Reference

end
-- ==== Proof.Range.lean ====
/- The precondition read at the words: every atom word is below 100, every pair word below 8 and every charge word below 7. -/
module

public import proofs.«01_k».proof.Defs
public import Idealize.ShloMosaic.Lib.ReduceAll
public import proofs.«01_k».proof.Proof.Take

@[expose] public section

noncomputable section

namespace Cert.Range

open Idealize.ShloMosaic Idealize.ShloMosaic.WordCmp

/-- The side conditions the precondition's operations take. -/
theorem facts : Cert.Pre_in_range.Facts where
  bcast_S_S256x64 := by decide
  reducesTo_S256x64_S_d0_1 := by decide
  h_S_ := by decide
  bcast_S_S256x64x64 := by decide
  reducesTo_S256x64x64_S_d0_1_2 := by decide

/-- A word that is at least zero and below a small bound, both signed, is below it as a number. -/
theorem below (x : BitVec 32) (n : ℕ) (hn : n < 2 ^ 31) (h : IntOp.andi (IntOp.cmpi .sge x 0#32) (IntOp.cmpi .slt x (BitVec.ofNat 32 n)) = 1#1) : x.toNat < n := by
  obtain ⟨h1, h2⟩ := IntOp.andi_eq_one.1 h
  rw [cmpi_sge_zero, ofBool_decide_eq_one_iff] at h1
  have e : (BitVec.ofNat 32 n).toNat = n := by rw [BitVec.toNat_ofNat]; exact Nat.mod_eq_of_lt (by omega)
  rw [cmpi_slt_of_lt h1 (by rw [e]; exact hn), ofBool_decide_eq_one_iff, e] at h2
  exact h2

open Cert.Pre_in_range in
/-- The precondition at the words. -/
theorem words [Cert.Pre_in_range.Facts] (a0 : IVec S256x64 32) (a1 : IVec S256x64x64 32) (a2 a3 : IVec S256x64 32) (a4 : FVec Ideal S100x64 .f32) (a5 : FVec Ideal S7x64 .f32)
    (a6 : FVec Ideal S8x64 .f32) (a7 : FVec Ideal S128x256 .f32) (a8 : FVec Ideal S256 .f32) (a9 : FVec Ideal S256x256 .f32) (a10 : FVec Ideal S256 .f32)
    (h : Cert.Pre_in_range.fn a0 a1 a2 a3 a4 a5 a6 a7 a8 a9 a10 = fun _ => 1#1) :
    (∀ i, (a0 i).toNat < 100) ∧ (∀ i, (a1 i).toNat < 8) ∧ ∀ i, (a3 i).toNat < 7 := by
  have hs : Subsingleton S_.Idx := ⟨fun i j => funext fun d => d.elim0⟩
  obtain ⟨h01, h3⟩ := IntOp.andi_eq_one.1 (congrFun h fun d => d.elim0)
  obtain ⟨h0, h1⟩ := IntOp.andi_eq_one.1 h01
  exact ⟨fun i => below _ 100 (by norm_num) (Host.reduce_andi_all _ _ _ _ _ h0 i), fun i => below _ 8 (by norm_num) (Host.reduce_andi_all _ _ _ _ _ h1 i),
    fun i => below _ 7 (by norm_num) (Host.reduce_andi_all _ _ _ _ _ h3 i)⟩

end Cert.Range

end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Frame
public import proofs.«01_k».proof.Proof.Results
public import proofs.«01_k».proof.Proof.Reference
public import proofs.«01_k».proof.Proof.Range
public import Idealize.ShloMosaic.Lib.Quiescent

@[expose] public section

noncomputable section

namespace Cert.Proof

open Idealize.ShloMosaic Idealize.ShloMosaic.ValueIdx Idealize.SL.Sem

/-- The reference runs, keeps its arguments and, having no semaphores, ends with none raised. -/
theorem reference_frame : quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩) (Cert.ReferenceIdeal.Value.run m g)

section Equation

open Cert.ReferenceIdeal.Read

/-- The reference's first result, as a whole array, is `node` at every entry. -/
theorem reference_nodes (x0 x3 : IVec Cert.ReferenceIdeal.S256x64 32) (x4 : FVec Ideal Cert.ReferenceIdeal.S100x64 .f32) (x5 : FVec Ideal Cert.ReferenceIdeal.S7x64 .f32)
    (x7 : FVec Ideal Cert.ReferenceIdeal.S128x256 .f32) (x8 : FVec Ideal Cert.ReferenceIdeal.S256 .f32) (x9 : FVec Ideal Cert.ReferenceIdeal.S256x256 .f32)
    (x10 : FVec Ideal Cert.ReferenceIdeal.S256 .f32) (h0 : ∀ i, (x0 i).toNat < 100) (h3 : ∀ i, (x3 i).toNat < 7) :
    val_main_v17 (F := Ideal) x0 x3 x4 x5 x7 x8 x9 x10 = fun i => Spec.node x4 x5 x7 x8 x9 x10 (x0 (ix2 (i 0) (i 1))) (x3 (ix2 (i 0) (i 1))) (i 2) := by
  funext i
  obtain ⟨a, b, d, rfl⟩ : ∃ (a : Fin 256) (b : Fin 64) (d : Fin 256), i = ix3 a b d := ⟨i 0, i 1, i 2, eq_ix3 i⟩
  exact Cert.Reference.node_apply x0 x3 x4 x5 x7 x8 x9 x10 h0 h3 a b d

/-- The reference's second result, as a whole array, is `edge` at every entry. -/
theorem reference_edges (x1 : IVec Cert.ReferenceIdeal.S256x64x64 32) (x6 : FVec Ideal Cert.ReferenceIdeal.S8x64 .f32) (h1 : ∀ i, (x1 i).toNat < 8) :
    val_main_v18 (F := Ideal) x1 x6 = fun i => Spec.edge x6 (x1 (ix3 (i 0) (i 1) (i 2))) (i 3) := by
  funext i
  obtain ⟨a, b, j, e, rfl⟩ : ∃ (a : Fin 256) (b j e : Fin 64), i = ix4 a b j e := ⟨i 0, i 1, i 2, i 3, eq_ix4 i⟩
  exact Cert.Reference.edge_apply x1 x6 h1 a b j e

end Equation

/-- The idealized kernel's two results are the reference's. -/
theorem equation : algebraic_KernelIdeal_ReferenceIdeal_pre_in_range (hKernelIdeal := Cert.KernelIdeal.Gen.facts) (hReferenceIdeal := Cert.ReferenceIdeal.Gen.facts)
    (hPre_in_range := Cert.Range.facts) := by
  intro m g m' g' hpre hargs
  letI := Cert.Range.facts
  have hw := fun c => Cert.Range.words _ _ _ _ _ _ _ _ _ _ _ (hpre c)
  refine ⟨Cert.Arrays.nodes m, Cert.Results.edges m, Cert.Results.run m g (fun c => (hw c).1) (fun c => (hw c).2.1) (fun c => (hw c).2.2), ?_⟩
  refine (θ_run Cert.ReferenceIdeal.defs _ _).mono (fun r h c => ⟨(h c).1.trans ?_, (h c).2.1.trans ?_, (h c).2.2⟩) (Cert.ReferenceIdeal.Value.run m' g')
  · obtain ⟨e0, -, -, e3, e4, e5, -, e7, e8, e9, e10⟩ := hargs c
    rw [Cert.ReferenceIdeal.Read.val_main_v17_eq, e0, e3, e4, e5, e7, e8, e9, e10]
    exact reference_nodes _ _ _ _ _ _ _ _ (hw c).1 (hw c).2.2
  · obtain ⟨-, e1, -, -, -, -, e6, -, -, -, -⟩ := hargs c
    rw [Cert.ReferenceIdeal.Read.val_main_v18_eq, e1, e6]
    exact reference_edges _ _ (hw c).2.1

theorem claim : Cert.Claim :=
  ⟨Cert.Kernel.Gen.facts, Cert.KernelIdeal.Gen.facts, Cert.ReferenceIdeal.Gen.facts, Cert.Range.facts,
    fun m g _ => Cert.Kernel.Gen.frame m g, fun m g _ => Cert.KernelIdeal.Gen.frame m g, fun m g _ => Cert.KernelIdeal.Gen.frame m g,
    reference_frame, fun m g _ => reference_frame m g trivial, trivial, equation⟩

end Cert.Proof

end
